-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_edges_name_nodes [hPre_edges_name_nodes : Cert.Pre_edges_name_nodes.Facts] (m : (ℓ : Loc Cert.KernelIdeal.nD Cert.KernelIdeal.τ Cert.KernelIdeal.sig) → Buf (Elt Ideal) ℓ) : Prop :=
  ∀ c : Dev Cert.KernelIdeal.nD,
    (Cert.Pre_edges_name_nodes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_name_nodes [hPre_edges_name_nodes : Cert.Pre_edges_name_nodes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_name_nodes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_edges_name_nodes [hKernelIdeal : Cert.KernelIdeal.Facts] [hPre_edges_name_nodes : Cert.Pre_edges_name_nodes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_name_nodes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_edges_name_nodes [hReferenceIdeal : Cert.ReferenceIdeal.Facts] [hPre_edges_name_nodes : Cert.Pre_edges_name_nodes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_name_nodes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_edges_name_nodes [hKernelIdeal : Cert.KernelIdeal.Facts] [hReferenceIdeal : Cert.ReferenceIdeal.Facts] [hPre_edges_name_nodes : Cert.Pre_edges_name_nodes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_name_nodes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v258) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_edges_name_nodes : Cert.Pre_edges_name_nodes.Facts),
    quiescent_Kernel (hKernel := hKernel)
    ∧ quiescent_KernelIdeal (hKernelIdeal := hKernelIdeal)
    ∧ quiescent_KernelIdeal_pre_edges_name_nodes (hKernelIdeal := hKernelIdeal) (hPre_edges_name_nodes := hPre_edges_name_nodes)
    ∧ quiescent_ReferenceIdeal (hReferenceIdeal := hReferenceIdeal)
    ∧ quiescent_ReferenceIdeal_pre_edges_name_nodes (hReferenceIdeal := hReferenceIdeal) (hPre_edges_name_nodes := hPre_edges_name_nodes)
    ∧ preserves_Kernel_KernelIdeal
    ∧ algebraic_KernelIdeal_ReferenceIdeal_pre_edges_name_nodes (hKernelIdeal := hKernelIdeal) (hReferenceIdeal := hReferenceIdeal) (hPre_edges_name_nodes := hPre_edges_name_nodes)
-- ==== Pre_edges_name_nodes.lean ====
abbrev S52x512 : Shape := ⟨2, ![52, 512]⟩
abbrev S2x832 : Shape := ⟨2, ![2, 832]⟩
abbrev S512x512 : Shape := ⟨2, ![512, 512]⟩
abbrev S512 : Shape := ⟨1, ![512]⟩
abbrev S1x1 : Shape := ⟨2, ![1, 1]⟩
abbrev S1 : Shape := ⟨1, ![1]⟩
abbrev S_ : Shape := ⟨0, ![]⟩

class Facts : Prop where
  bcast_S_S2x832 : S_.BroadcastsInDim S2x832 (![] : Fin 0 → Fin S2x832.rank)

variable [Facts]

def fn {F : FTy → Type} [FloatOps F] (main_arg0 : FVec F S52x512 .f32) (main_arg1 : IVec S2x832 32) (main_arg2 : FVec F S512x512 .f32) (main_arg3 : FVec F S512 .f32) (main_arg4 : FVec F S512 .f32) (main_arg5 : FVec F S512 .f32) (main_arg6 : FVec F S512x512 .f32) (main_arg7 : FVec F S512 .f32) (main_arg8 : FVec F S512 .f32) (main_arg9 : FVec F S512 .f32) (main_arg10 : FVec F S512x512 .f32) (main_arg11 : FVec F S512 .f32) (main_arg12 : FVec F S1x1 .f32) (main_arg13 : FVec F S1 .f32) : IVec S2x832 1 :=
  let main_c : IVec S_ 32 := constantI S_ 32 0#32
  let main_v0 : IVec S2x832 32 := broadcastInDim S2x832 ![] bcast_S_S2x832 main_c
  let main_v1 : IVec S2x832 1 := cmpi .sge main_arg1 main_v0
  let main_c_0 : IVec S_ 32 := constantI S_ 32 52#32
  let main_v2 : IVec S2x832 32 := broadcastInDim S2x832 ![] bcast_S_S2x832 main_c_0
  let main_v3 : IVec S2x832 1 := cmpi .slt main_arg1 main_v2
  let main_v4 : IVec S2x832 1 := andi main_v1 main_v3
  main_v4
-- ==== Kernel.lean ====
abbrev S52x512 : Shape := ⟨2, ![52, 512]⟩
abbrev S2x832 : Shape := ⟨2, ![2, 832]⟩
abbrev S512x512 : Shape := ⟨2, ![512, 512]⟩
abbrev S512 : Shape := ⟨1, ![512]⟩
abbrev S1x1 : Shape := ⟨2, ![1, 1]⟩
abbrev S1 : Shape := ⟨1, ![1]⟩
abbrev S1x512 : Shape := ⟨2, ![1, 512]⟩
abbrev S52x832 : Shape := ⟨2, ![52, 832]⟩
abbrev S1x832 : Shape := ⟨2, ![1, 832]⟩
abbrev S52x52 : Shape := ⟨2, ![52, 52]⟩
abbrev S1x52 : Shape := ⟨2, ![1, 52]⟩
abbrev S52x1 : Shape := ⟨2, ![52, 1]⟩
abbrev S52x2 : Shape := ⟨2, ![52, 2]⟩
abbrev S2x52 : Shape := ⟨2, ![2, 52]⟩
abbrev S52 : Shape := ⟨1, ![52]⟩

abbrev nBuf : Space → Nat
  | .hbm => 23
  | .vmem => 15
  | .smem => 0
  | _ => 0

abbrev bufTy : (tb : Table) → Fin (tcTables nBuf tb) → BufTy
  | .hbm, ⟨0, _⟩ => ⟨S52x512, .f32⟩
  | .hbm, ⟨1, _⟩ => ⟨S2x832, .i32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S1x1, .f32⟩
  | .hbm, ⟨13, _⟩ => ⟨S1, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x1, .f32⟩
  | .hbm, ⟨22, _⟩ => ⟨S52x512, .f32⟩
  | .local _ .vmem, ⟨0, _⟩ => ⟨S2x832, .i32⟩
  | .local _ .vmem, ⟨1, _⟩ => ⟨S52x512, .f32⟩
  | .local _ .vmem, ⟨2, _⟩ => ⟨S512x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S1x512, .f32⟩
  | .local _ .vmem, ⟨12, _⟩ => ⟨S1x1, .f32⟩
  | .local _ .vmem, ⟨13, _⟩ => ⟨S1x1, .f32⟩
  | .local _ .vmem, ⟨14, _⟩ => ⟨S52x512, .f32⟩
  | _, _ => ⟨S52x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_v0 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S2x832 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S52x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S52x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== ReferenceIdeal.lean ====
abbrev S52x512 : Shape := ⟨2, ![52, 512]⟩
abbrev S2x832 : Shape := ⟨2, ![2, 832]⟩
abbrev S512x512 : Shape := ⟨2, ![512, 512]⟩
abbrev S512 : Shape := ⟨1, ![512]⟩
abbrev S1x1 : Shape := ⟨2, ![1, 1]⟩
abbrev S1 : Shape := ⟨1, ![1]⟩
abbrev S52 : Shape := ⟨1, ![52]⟩
abbrev S1x832 : Shape := ⟨2, ![1, 832]⟩
abbrev S832 : Shape := ⟨1, ![832]⟩
abbrev S884 : Shape := ⟨1, ![884]⟩
abbrev S1x512 : Shape := ⟨2, ![1, 512]⟩
abbrev S_ : Shape := ⟨0, ![]⟩
abbrev S884x1 : Shape := ⟨2, ![884, 1]⟩
abbrev S1x884 : Shape := ⟨2, ![1, 884]⟩
abbrev S52x1 : Shape := ⟨2, ![52, 1]⟩
abbrev S52x884 : Shape := ⟨2, ![52, 884]⟩
abbrev S884x512 : Shape := ⟨2, ![884, 512]⟩
abbrev S1x52x512 : Shape := ⟨3, ![1, 52, 512]⟩
abbrev S52x1x512 : Shape := ⟨3, ![52, 1, 512]⟩

abbrev nBuf : Space → Nat
  | .hbm => 369
  | .vmem => 0
  | .smem => 0
  | _ => 0

abbrev hbmTy0_0 (i : Nat) : BufTy := match i % 128 with
  | 0 => ⟨S52x512, .f32⟩
  | 1 => ⟨S2x832, .i32⟩
  | 2 => ⟨S512x512, .f32⟩
  | 3 => ⟨S512, .f32⟩
  | 4 => ⟨S512, .f32⟩
  | 5 => ⟨S512, .f32⟩
  | 6 => ⟨S512x512, .f32⟩
  | 7 => ⟨S512, .f32⟩
  | 8 => ⟨S512, .f32⟩
  | 9 => ⟨S512, .f32⟩
  | 10 => ⟨S512x512, .f32⟩
  | 11 => ⟨S512, .f32⟩
  | 12 => ⟨S1x1, .f32⟩
  | 13 => ⟨S1, .f32⟩
  | 14 => ⟨S52, .i32⟩
  | 15 => ⟨S1x832, .i32⟩
  | 16 => ⟨S832, .i32⟩
  | 17 => ⟨S884, .i32⟩
  | 18 => ⟨S1x832, .i32⟩
  | 19 => ⟨S832, .i32⟩
  | 20 => ⟨S884, .i32⟩
  | 21 => ⟨S52x512, .f32⟩
  | 22 => ⟨S1x512, .f32⟩
  | 23 => ⟨S52x512, .f32⟩
  | 24 => ⟨S52x512, .f32⟩
  | 25 => ⟨S_, .f32⟩
  | 26 => ⟨S52, .f32⟩
  | 27 => ⟨S1x512, .f32⟩
  | 28 => ⟨S52x512, .f32⟩
  | 29 => ⟨S52x512, .f32⟩
  | 30 => ⟨S_, .f32⟩
  | 31 => ⟨S52, .f32⟩
  | 32 => ⟨S_, .i32⟩
  | 33 => ⟨S884, .i32⟩
  | 34 => ⟨S884, .i1⟩
  | 35 => ⟨S_, .i32⟩
  | 36 => ⟨S884, .i32⟩
  | 37 => ⟨S884, .i32⟩
  | 38 => ⟨S884, .i32⟩
  | 39 => ⟨S884x1, .i32⟩
  | 40 => ⟨S884, .f32⟩
  | 41 => ⟨S_, .i32⟩
  | 42 => ⟨S884, .i32⟩
  | 43 => ⟨S884, .i1⟩
  | 44 => ⟨S_, .i32⟩
  | 45 => ⟨S884, .i32⟩
  | 46 => ⟨S884, .i32⟩
  | 47 => ⟨S884, .i32⟩
  | 48 => ⟨S884x1, .i32⟩
  | 49 => ⟨S884, .f32⟩
  | 50 => ⟨S884, .f32⟩
  | 51 => ⟨S_, .f32⟩
  | 52 => ⟨S_, .f32⟩
  | 53 => ⟨S884, .f32⟩
  | 54 => ⟨S884, .i1⟩
  | 55 => ⟨S_, .f32⟩
  | 56 => ⟨S884, .f32⟩
  | 57 => ⟨S884, .f32⟩
  | 58 => ⟨S884, .f32⟩
  | 59 => ⟨S1x884, .i32⟩
  | 60 => ⟨S52, .i32⟩
  | 61 => ⟨S52x1, .i32⟩
  | 62 => ⟨S52x884, .i32⟩
  | 63 => ⟨S52x884, .i32⟩
  | 64 => ⟨S52x884, .i1⟩
  | 65 => ⟨S1x884, .f32⟩
  | 66 => ⟨S_, .f32⟩
  | 67 => ⟨S_, .f32⟩
  | 68 => ⟨S52x884, .f32⟩
  | 69 => ⟨S52x884, .f32⟩
  | 70 => ⟨S52x884, .f32⟩
  | 71 => ⟨S_, .f32⟩
  | 72 => ⟨S52, .f32⟩
  | 73 => ⟨S_, .f32⟩
  | 74 => ⟨S52, .f32⟩
  | 75 => ⟨S52, .i1⟩
  | 76 => ⟨S_, .f32⟩
  | 77 => ⟨S52, .f32⟩
  | 78 => ⟨S52, .i1⟩
  | 79 => ⟨S52, .i1⟩
  | 80 => ⟨S_, .f32⟩
  | 81 => ⟨S_, .f32⟩
  | 82 => ⟨S52, .f32⟩
  | 83 => ⟨S52, .f32⟩
  | 84 => ⟨S_, .i32⟩
  | 85 => ⟨S884, .i32⟩
  | 86 => ⟨S884, .i1⟩
  | 87 => ⟨S_, .i32⟩
  | 88 => ⟨S884, .i32⟩
  | 89 => ⟨S884, .i32⟩
  | 90 => ⟨S884, .i32⟩
  | 91 => ⟨S884x1, .i32⟩
  | 92 => ⟨S884, .f32⟩
  | 93 => ⟨S884, .f32⟩
  | 94 => ⟨S884, .f32⟩
  | 95 => ⟨S_, .f32⟩
  | 96 => ⟨S52, .f32⟩
  | 97 => ⟨S884x1, .i32⟩
  | 98 => ⟨S52, .f32⟩
  | 99 => ⟨S_, .i32⟩
  | 100 => ⟨S884, .i32⟩
  | 101 => ⟨S884, .i1⟩
  | 102 => ⟨S_, .i32⟩
  | 103 => ⟨S884, .i32⟩
  | 104 => ⟨S884, .i32⟩
  | 105 => ⟨S884, .i32⟩
  | 106 => ⟨S884x1, .i32⟩
  | 107 => ⟨S884, .f32⟩
  | 108 => ⟨S52, .f32⟩
  | 109 => ⟨S52, .f32⟩
  | 110 => ⟨S_, .i32⟩
  | 111 => ⟨S884, .i32⟩
  | 112 => ⟨S884, .i1⟩
  | 113 => ⟨S_, .i32⟩
  | 114 => ⟨S884, .i32⟩
  | 115 => ⟨S884, .i32⟩
  | 116 => ⟨S884, .i32⟩
  | 117 => ⟨S884x1, .i32⟩
  | 118 => ⟨S884, .f32⟩
  | 119 => ⟨S_, .f32⟩
  | 120 => ⟨S884, .f32⟩
  | 121 => ⟨S884, .f32⟩
  | 122 => ⟨S884, .f32⟩
  | 123 => ⟨S884, .f32⟩
  | 124 => ⟨S884x1, .f32⟩
  | 125 => ⟨S_, .i32⟩
  | 126 => ⟨S884, .i32⟩
  | 127 => ⟨S884, .i1⟩
  | _ => ⟨S52x512, .f32⟩

abbrev hbmTy0_1 (i : Nat) : BufTy := match i % 128 with
  | 0 => ⟨S_, .i32⟩
  | 1 => ⟨S884, .i32⟩
  | 2 => ⟨S884, .i32⟩
  | 3 => ⟨S884, .i32⟩
  | 4 => ⟨S884x1, .i32⟩
  | 5 => ⟨S884x512, .f32⟩
  | 6 => ⟨S884x512, .f32⟩
  | 7 => ⟨S884x512, .f32⟩
  | 8 => ⟨S_, .f32⟩
  | 9 => ⟨S52x512, .f32⟩
  | 10 => ⟨S884x1, .i32⟩
  | 11 => ⟨S52x512, .f32⟩
  | 12 => ⟨S1x512, .f32⟩
  | 13 => ⟨S52x512, .f32⟩
  | 14 => ⟨S52x512, .f32⟩
  | 15 => ⟨S52x512, .f32⟩
  | 16 => ⟨S1x512, .f32⟩
  | 17 => ⟨S52x512, .f32⟩
  | 18 => ⟨S52x512, .f32⟩
  | 19 => ⟨S_, .f32⟩
  | 20 => ⟨S52, .f32⟩
  | 21 => ⟨S1x512, .f32⟩
  | 22 => ⟨S52x512, .f32⟩
  | 23 => ⟨S52x512, .f32⟩
  | 24 => ⟨S_, .f32⟩
  | 25 => ⟨S52, .f32⟩
  | 26 => ⟨S_, .i32⟩
  | 27 => ⟨S884, .i32⟩
  | 28 => ⟨S884, .i1⟩
  | 29 => ⟨S_, .i32⟩
  | 30 => ⟨S884, .i32⟩
  | 31 => ⟨S884, .i32⟩
  | 32 => ⟨S884, .i32⟩
  | 33 => ⟨S884x1, .i32⟩
  | 34 => ⟨S884, .f32⟩
  | 35 => ⟨S_, .i32⟩
  | 36 => ⟨S884, .i32⟩
  | 37 => ⟨S884, .i1⟩
  | 38 => ⟨S_, .i32⟩
  | 39 => ⟨S884, .i32⟩
  | 40 => ⟨S884, .i32⟩
  | 41 => ⟨S884, .i32⟩
  | 42 => ⟨S884x1, .i32⟩
  | 43 => ⟨S884, .f32⟩
  | 44 => ⟨S884, .f32⟩
  | 45 => ⟨S_, .f32⟩
  | 46 => ⟨S_, .f32⟩
  | 47 => ⟨S884, .f32⟩
  | 48 => ⟨S884, .i1⟩
  | 49 => ⟨S_, .f32⟩
  | 50 => ⟨S884, .f32⟩
  | 51 => ⟨S884, .f32⟩
  | 52 => ⟨S884, .f32⟩
  | 53 => ⟨S1x884, .i32⟩
  | 54 => ⟨S52, .i32⟩
  | 55 => ⟨S52x1, .i32⟩
  | 56 => ⟨S52x884, .i32⟩
  | 57 => ⟨S52x884, .i32⟩
  | 58 => ⟨S52x884, .i1⟩
  | 59 => ⟨S1x884, .f32⟩
  | 60 => ⟨S_, .f32⟩
  | 61 => ⟨S_, .f32⟩
  | 62 => ⟨S52x884, .f32⟩
  | 63 => ⟨S52x884, .f32⟩
  | 64 => ⟨S52x884, .f32⟩
  | 65 => ⟨S_, .f32⟩
  | 66 => ⟨S52, .f32⟩
  | 67 => ⟨S_, .f32⟩
  | 68 => ⟨S52, .f32⟩
  | 69 => ⟨S52, .i1⟩
  | 70 => ⟨S_, .f32⟩
  | 71 => ⟨S52, .f32⟩
  | 72 => ⟨S52, .i1⟩
  | 73 => ⟨S52, .i1⟩
  | 74 => ⟨S_, .f32⟩
  | 75 => ⟨S_, .f32⟩
  | 76 => ⟨S52, .f32⟩
  | 77 => ⟨S52, .f32⟩
  | 78 => ⟨S_, .i32⟩
  | 79 => ⟨S884, .i32⟩
  | 80 => ⟨S884, .i1⟩
  | 81 => ⟨S_, .i32⟩
  | 82 => ⟨S884, .i32⟩
  | 83 => ⟨S884, .i32⟩
  | 84 => ⟨S884, .i32⟩
  | 85 => ⟨S884x1, .i32⟩
  | 86 => ⟨S884, .f32⟩
  | 87 => ⟨S884, .f32⟩
  | 88 => ⟨S884, .f32⟩
  | 89 => ⟨S_, .f32⟩
  | 90 => ⟨S52, .f32⟩
  | 91 => ⟨S884x1, .i32⟩
  | 92 => ⟨S52, .f32⟩
  | 93 => ⟨S_, .i32⟩
  | 94 => ⟨S884, .i32⟩
  | 95 => ⟨S884, .i1⟩
  | 96 => ⟨S_, .i32⟩
  | 97 => ⟨S884, .i32⟩
  | 98 => ⟨S884, .i32⟩
  | 99 => ⟨S884, .i32⟩
  | 100 => ⟨S884x1, .i32⟩
  | 101 => ⟨S884, .f32⟩
  | 102 => ⟨S52, .f32⟩
  | 103 => ⟨S52, .f32⟩
  | 104 => ⟨S_, .i32⟩
  | 105 => ⟨S884, .i32⟩
  | 106 => ⟨S884, .i1⟩
  | 107 => ⟨S_, .i32⟩
  | 108 => ⟨S884, .i32⟩
  | 109 => ⟨S884, .i32⟩
  | 110 => ⟨S884, .i32⟩
  | 111 => ⟨S884x1, .i32⟩
  | 112 => ⟨S884, .f32⟩
  | 113 => ⟨S_, .f32⟩
  | 114 => ⟨S884, .f32⟩
  | 115 => ⟨S884, .f32⟩
  | 116 => ⟨S884, .f32⟩
  | 117 => ⟨S884, .f32⟩
  | 118 => ⟨S884x1, .f32⟩
  | 119 => ⟨S_, .i32⟩
  | 120 => ⟨S884, .i32⟩
  | 121 => ⟨S884, .i1⟩
  | 122 => ⟨S_, .i32⟩
  | 123 => ⟨S884, .i32⟩
  | 124 => ⟨S884, .i32⟩
  | 125 => ⟨S884, .i32⟩
  | 126 => ⟨S884x1, .i32⟩
  | 127 => ⟨S884x512, .f32⟩
  | _ => ⟨S52x512, .f32⟩

abbrev hbmTy0_2 (i : Nat) : BufTy := match i % 128 with
  | 0 => ⟨S884x512, .f32⟩
  | 1 => ⟨S884x512, .f32⟩
  | 2 => ⟨S_, .f32⟩
  | 3 => ⟨S52x512, .f32⟩
  | 4 => ⟨S884x1, .i32⟩
  | 5 => ⟨S52x512, .f32⟩
  | 6 => ⟨S1x512, .f32⟩
  | 7 => ⟨S52x512, .f32⟩
  | 8 => ⟨S52x512, .f32⟩
  | 9 => ⟨S52x512, .f32⟩
  | 10 => ⟨S_, .f32⟩
  | 11 => ⟨S52x512, .f32⟩
  | 12 => ⟨S52x512, .f32⟩
  | 13 => ⟨S1x52x512, .f32⟩
  | 14 => ⟨S_, .f32⟩
  | 15 => ⟨S1x512, .f32⟩
  | 16 => ⟨S_, .f32⟩
  | 17 => ⟨S1x512, .f32⟩
  | 18 => ⟨S1x512, .f32⟩
  | 19 => ⟨S_, .f32⟩
  | 20 => ⟨S1x512, .f32⟩
  | 21 => ⟨S512x512, .f32⟩
  | 22 => ⟨S1x512, .f32⟩
  | 23 => ⟨S1x512, .f32⟩
  | 24 => ⟨S1x512, .f32⟩
  | 25 => ⟨S_, .f32⟩
  | 26 => ⟨S1x512, .f32⟩
  | 27 => ⟨S1x512, .f32⟩
  | 28 => ⟨S512x512, .f32⟩
  | 29 => ⟨S1x512, .f32⟩
  | 30 => ⟨S1x512, .f32⟩
  | 31 => ⟨S1x512, .f32⟩
  | 32 => ⟨S_, .f32⟩
  | 33 => ⟨S1x512, .f32⟩
  | 34 => ⟨S1x512, .f32⟩
  | 35 => ⟨S1x512, .f32⟩
  | 36 => ⟨S1x512, .f32⟩
  | 37 => ⟨S1x512, .f32⟩
  | 38 => ⟨S_, .f32⟩
  | 39 => ⟨S1x512, .f32⟩
  | 40 => ⟨S1x512, .f32⟩
  | 41 => ⟨S_, .f32⟩
  | 42 => ⟨S1x512, .f32⟩
  | 43 => ⟨S1x512, .f32⟩
  | 44 => ⟨S52x512, .f32⟩
  | 45 => ⟨S52x512, .f32⟩
  | 46 => ⟨S52x1x512, .f32⟩
  | 47 => ⟨S_, .f32⟩
  | 48 => ⟨S52x1, .f32⟩
  | 49 => ⟨S_, .f32⟩
  | 50 => ⟨S884, .f32⟩
  | 51 => ⟨S_, .f32⟩
  | 52 => ⟨S52, .f32⟩
  | 53 => ⟨S884x1, .i32⟩
  | 54 => ⟨S52, .f32⟩
  | 55 => ⟨S_, .f32⟩
  | 56 => ⟨S52, .f32⟩
  | 57 => ⟨S52, .i1⟩
  | 58 => ⟨S_, .f32⟩
  | 59 => ⟨S52, .f32⟩
  | 60 => ⟨S52, .f32⟩
  | 61 => ⟨S_, .f32⟩
  | 62 => ⟨S_, .f32⟩
  | 63 => ⟨S52, .f32⟩
  | 64 => ⟨S52, .f32⟩
  | 65 => ⟨S_, .i32⟩
  | 66 => ⟨S884, .i32⟩
  | 67 => ⟨S884, .i1⟩
  | 68 => ⟨S_, .i32⟩
  | 69 => ⟨S884, .i32⟩
  | 70 => ⟨S884, .i32⟩
  | 71 => ⟨S884, .i32⟩
  | 72 => ⟨S884x1, .i32⟩
  | 73 => ⟨S884, .f32⟩
  | 74 => ⟨S_, .i32⟩
  | 75 => ⟨S884, .i32⟩
  | 76 => ⟨S884, .i1⟩
  | 77 => ⟨S_, .i32⟩
  | 78 => ⟨S884, .i32⟩
  | 79 => ⟨S884, .i32⟩
  | 80 => ⟨S884, .i32⟩
  | 81 => ⟨S884x1, .i32⟩
  | 82 => ⟨S884, .f32⟩
  | 83 => ⟨S884, .f32⟩
  | 84 => ⟨S52x1, .f32⟩
  | 85 => ⟨S884x1, .f32⟩
  | 86 => ⟨S_, .i32⟩
  | 87 => ⟨S884, .i32⟩
  | 88 => ⟨S884, .i1⟩
  | 89 => ⟨S_, .i32⟩
  | 90 => ⟨S884, .i32⟩
  | 91 => ⟨S884, .i32⟩
  | 92 => ⟨S884, .i32⟩
  | 93 => ⟨S884x1, .i32⟩
  | 94 => ⟨S884x1, .f32⟩
  | 95 => ⟨S884x1, .f32⟩
  | 96 => ⟨S_, .f32⟩
  | 97 => ⟨S52x1, .f32⟩
  | 98 => ⟨S884x1, .i32⟩
  | 99 => ⟨S52x1, .f32⟩
  | 100 => ⟨S1x1, .f32⟩
  | 101 => ⟨S52x1, .f32⟩
  | 102 => ⟨S52x1, .f32⟩
  | 103 => ⟨S52x1, .f32⟩
  | 104 => ⟨S52x1, .f32⟩
  | 105 => ⟨S_, .f32⟩
  | 106 => ⟨S52x1, .f32⟩
  | 107 => ⟨S52x1, .f32⟩
  | 108 => ⟨S_, .f32⟩
  | 109 => ⟨S52x1, .f32⟩
  | 110 => ⟨S52x1, .f32⟩
  | 111 => ⟨S52x512, .f32⟩
  | 112 => ⟨S52x512, .f32⟩
  | _ => ⟨S52x512, .f32⟩

abbrev hbmTy (i : Nat) : BufTy := match i / 128 with
  | 0 => hbmTy0_0 i
  | 1 => hbmTy0_1 i
  | 2 => hbmTy0_2 i
  | _ => ⟨S52x512, .f32⟩

abbrev bufTy : (tb : Table) → Fin (tcTables nBuf tb) → BufTy
  | .hbm, ⟨i, _⟩ => hbmTy i
  | _, _ => ⟨S52x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v39 : Ref sig .tc := ⟨.hbm, 70, rfl⟩
abbrev main_cst_6 : Ref sig .tc := ⟨.hbm, 71, rfl⟩
abbrev main_v40 : Ref sig .tc := ⟨.hbm, 72, rfl⟩
abbrev main_cst_7 : Ref sig .tc := ⟨.hbm, 73, rfl⟩
abbrev main_v41 : Ref sig .tc := ⟨.hbm, 74, rfl⟩
abbrev main_v42 : Ref sig .tc := ⟨.hbm, 75, rfl⟩
abbrev main_cst_8 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_9 : Ref sig .tc := ⟨.hbm, 80, rfl⟩
abbrev main_call2_v0 : Ref sig .tc := ⟨.hbm, 81, rfl⟩
abbrev main_call2_v1 : Ref sig .tc := ⟨.hbm, 82, rfl⟩
abbrev main_v46 : Ref sig .tc := ⟨.hbm, 83, rfl⟩
abbrev main_c_10 : Ref sig .tc := ⟨.hbm, 84, rfl⟩
abbrev main_v47 : Ref sig .tc := ⟨.hbm, 85, rfl⟩
abbrev main_v48 : Ref sig .tc := ⟨.hbm, 86, rfl⟩
abbrev main_c_11 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_12 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_c_13 : Ref sig .tc := ⟨.hbm, 99, rfl⟩
abbrev main_v59 : Ref sig .tc := ⟨.hbm, 100, rfl⟩
abbrev main_v60 : Ref sig .tc := ⟨.hbm, 101, rfl⟩
abbrev main_c_14 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_c_15 : Ref sig .tc := ⟨.hbm, 110, rfl⟩
abbrev main_v68 : Ref sig .tc := ⟨.hbm, 111, rfl⟩
abbrev main_v69 : Ref sig .tc := ⟨.hbm, 112, rfl⟩
abbrev main_c_16 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_17 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_c_18 : Ref sig .tc := ⟨.hbm, 125, rfl⟩
abbrev main_v80 : Ref sig .tc := ⟨.hbm, 126, rfl⟩
abbrev main_v81 : Ref sig .tc := ⟨.hbm, 127, rfl⟩
abbrev main_c_19 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_20 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_21 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_cst_22 : Ref sig .tc := ⟨.hbm, 152, rfl⟩
abbrev main_v103 : Ref sig .tc := ⟨.hbm, 153, rfl⟩
abbrev main_c_23 : Ref sig .tc := ⟨.hbm, 154, rfl⟩
abbrev main_v104 : Ref sig .tc := ⟨.hbm, 155, rfl⟩
abbrev main_v105 : Ref sig .tc := ⟨.hbm, 156, rfl⟩
abbrev main_c_24 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_c_25 : Ref sig .tc := ⟨.hbm, 163, rfl⟩
abbrev main_v111 : Ref sig .tc := ⟨.hbm, 164, rfl⟩
abbrev main_v112 : Ref sig .tc := ⟨.hbm, 165, rfl⟩
abbrev main_c_26 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_cst_27 : Ref sig .tc := ⟨.hbm, 173, rfl⟩
abbrev main_call3_cst : Ref sig .tc := ⟨.hbm, 174, rfl⟩
abbrev main_call3_v0 : Ref sig .tc := ⟨.hbm, 175, rfl⟩
abbrev main_call3_v1 : Ref sig .tc := ⟨.hbm, 176, rfl⟩
abbrev main_call3_v2 : Ref sig .tc := ⟨.hbm, 177, rfl⟩
abbrev main_call3_v3 : Ref sig .tc := ⟨.hbm, 178, rfl⟩
abbrev main_call3_v4 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_cst_28 : Ref sig .tc := ⟨.hbm, 188, rfl⟩
abbrev main_call4_v0 : Ref sig .tc := ⟨.hbm, 189, rfl⟩
abbrev main_call4_v1 : Ref sig .tc := ⟨.hbm, 190, rfl⟩
abbrev main_call4_v2 : Ref sig .tc := ⟨.hbm, 191, rfl⟩
abbrev main_v127 : Ref sig .tc := ⟨.hbm, 192, rfl⟩
abbrev main_cst_29 : Ref sig .tc := ⟨.hbm, 193, rfl⟩
abbrev main_v128 : Ref sig .tc := ⟨.hbm, 194, rfl⟩
abbrev main_cst_30 : Ref sig .tc := ⟨.hbm, 195, rfl⟩
abbrev main_v129 : Ref sig .tc := ⟨.hbm, 196, rfl⟩
abbrev main_v130 : Ref sig .tc := ⟨.hbm, 197, rfl⟩
abbrev main_cst_31 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_cst_32 : Ref sig .tc := ⟨.hbm, 202, rfl⟩
abbrev main_call5_v0 : Ref sig .tc := ⟨.hbm, 203, rfl⟩
abbrev main_call5_v1 : Ref sig .tc := ⟨.hbm, 204, rfl⟩
abbrev main_v134 : Ref sig .tc := ⟨.hbm, 205, rfl⟩
abbrev main_c_33 : Ref sig .tc := ⟨.hbm, 206, rfl⟩
abbrev main_v135 : Ref sig .tc := ⟨.hbm, 207, rfl⟩
abbrev main_v136 : Ref sig .tc := ⟨.hbm, 208, rfl⟩
abbrev main_c_34 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_cst_35 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_c_36 : Ref sig .tc := ⟨.hbm, 221, rfl⟩
abbrev main_v147 : Ref sig .tc := ⟨.hbm, 222, rfl⟩
abbrev main_v148 : Ref sig .tc := ⟨.hbm, 223, rfl⟩
abbrev main_c_37 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_c_38 : Ref sig .tc := ⟨.hbm, 232, rfl⟩
abbrev main_v156 : Ref sig .tc := ⟨.hbm, 233, rfl⟩
abbrev main_v157 : Ref sig .tc := ⟨.hbm, 234, rfl⟩
abbrev main_c_39 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_cst_40 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_c_41 : Ref sig .tc := ⟨.hbm, 247, rfl⟩
abbrev main_v168 : Ref sig .tc := ⟨.hbm, 248, rfl⟩
abbrev main_v169 : Ref sig .tc := ⟨.hbm, 249, rfl⟩
abbrev main_c_42 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_cst_43 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_call6_cst : Ref sig .tc := ⟨.hbm, 266, rfl⟩
abbrev main_call6_v0 : Ref sig .tc := ⟨.hbm, 267, rfl⟩
abbrev main_v184 : Ref sig .tc := ⟨.hbm, 268, rfl⟩
abbrev main_v185 : Ref sig .tc := ⟨.hbm, 269, rfl⟩
abbrev main_cst_44 : Ref sig .tc := ⟨.hbm, 270, rfl⟩
abbrev main_v186 : Ref sig .tc := ⟨.hbm, 271, rfl⟩
abbrev main_cst_45 : Ref sig .tc := ⟨.hbm, 272, rfl⟩
abbrev main_v187 : Ref sig .tc := ⟨.hbm, 273, rfl⟩
abbrev main_v188 : Ref sig .tc := ⟨.hbm, 274, rfl⟩
abbrev main_cst_46 : Ref sig .tc := ⟨.hbm, 275, rfl⟩
abbrev main_v189 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_v193 : Ref sig .tc := ⟨.hbm, 280, rfl⟩
abbrev main_call7_cst : Ref sig .tc := ⟨.hbm, 281, rfl⟩
abbrev main_call7_v0 : Ref sig .tc := ⟨.hbm, 282, rfl⟩
abbrev main_v194 : Ref sig .tc := ⟨.hbm, 283, rfl⟩
abbrev main_v195 : Ref sig .tc := ⟨.hbm, 284, rfl⟩
abbrev main_v196 : Ref sig .tc := ⟨.hbm, 285, rfl⟩
abbrev main_v197 : Ref sig .tc := ⟨.hbm, 286, rfl⟩
abbrev main_v198 : Ref sig .tc := ⟨.hbm, 287, rfl⟩
abbrev main_call8_cst : Ref sig .tc := ⟨.hbm, 288, rfl⟩
abbrev main_call8_v0 : Ref sig .tc := ⟨.hbm, 289, rfl⟩
abbrev main_v199 : Ref sig .tc := ⟨.hbm, 290, rfl⟩
abbrev main_v200 : Ref sig .tc := ⟨.hbm, 291, rfl⟩
abbrev main_v201 : Ref sig .tc := ⟨.hbm, 292, rfl⟩
abbrev main_v202 : Ref sig .tc := ⟨.hbm, 293, rfl⟩
abbrev main_cst_47 : Ref sig .tc := ⟨.hbm, 294, rfl⟩
abbrev main_v203 : Ref sig .tc := ⟨.hbm, 295, rfl⟩
abbrev main_v204 : Ref sig .tc := ⟨.hbm, 296, rfl⟩
abbrev main_cst_48 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_v209 : Ref sig .tc := ⟨.hbm, 302, rfl⟩
abbrev main_cst_49 : Ref sig .tc := ⟨.hbm, 303, rfl⟩
abbrev main_v210 : Ref sig .tc := ⟨.hbm, 304, rfl⟩
abbrev main_cst_50 : Ref sig .tc := ⟨.hbm, 305, rfl⟩
abbrev main_v211 : Ref sig .tc := ⟨.hbm, 306, rfl⟩
abbrev main_cst_51 : Ref sig .tc := ⟨.hbm, 307, rfl⟩
abbrev main_v212 : Ref sig .tc := ⟨.hbm, 308, rfl⟩
abbrev main_v213 : Ref sig .tc := ⟨.hbm, 309, rfl⟩
abbrev main_v214 : Ref sig .tc := ⟨.hbm, 310, rfl⟩
abbrev main_cst_52 : Ref sig .tc := ⟨.hbm, 311, rfl⟩
abbrev main_v215 : Ref sig .tc := ⟨.hbm, 312, rfl⟩
abbrev main_v216 : Ref sig .tc := ⟨.hbm, 313, rfl⟩
abbrev main_cst_53 : Ref sig .tc := ⟨.hbm, 314, rfl⟩
abbrev main_v217 : Ref sig .tc := ⟨.hbm, 315, rfl⟩
abbrev main_v218 : Ref sig .tc := ⟨.hbm, 316, rfl⟩
abbrev main_cst_54 : Ref sig .tc := ⟨.hbm, 317, rfl⟩
abbrev main_call9_v0 : Ref sig .tc := ⟨.hbm, 318, rfl⟩
abbrev main_call9_v1 : Ref sig .tc := ⟨.hbm, 319, rfl⟩
abbrev main_v219 : Ref sig .tc := ⟨.hbm, 320, rfl⟩
abbrev main_c_55 : Ref sig .tc := ⟨.hbm, 321, rfl⟩
abbrev main_v220 : Ref sig .tc := ⟨.hbm, 322, rfl⟩
abbrev main_v221 : Ref sig .tc := ⟨.hbm, 323, rfl⟩
abbrev main_c_56 : Ref sig .tc := ⟨.hbm, 324, rfl⟩
abbrev main_v222 : Ref sig .tc := ⟨.hbm, 325, rfl⟩
abbrev main_v223 : Ref sig .tc := ⟨.hbm, 326, rfl⟩
abbrev main_v224 : Ref sig .tc := ⟨.hbm, 327, rfl⟩
abbrev main_v225 : Ref sig .tc := ⟨.hbm, 328, rfl⟩
abbrev main_v226 : Ref sig .tc := ⟨.hbm, 329, rfl⟩
abbrev main_c_57 : Ref sig .tc := ⟨.hbm, 330, rfl⟩
abbrev main_v227 : Ref sig .tc := ⟨.hbm, 331, rfl⟩
abbrev main_v228 : Ref sig .tc := ⟨.hbm, 332, rfl⟩
abbrev main_c_58 : Ref sig .tc := ⟨.hbm, 333, rfl⟩
abbrev main_v229 : Ref sig .tc := ⟨.hbm, 334, rfl⟩
abbrev main_v230 : Ref sig .tc := ⟨.hbm, 335, rfl⟩
abbrev main_v231 : Ref sig .tc := ⟨.hbm, 336, rfl⟩
abbrev main_v232 : Ref sig .tc := ⟨.hbm, 337, rfl⟩
abbrev main_v233 : Ref sig .tc := ⟨.hbm, 338, rfl⟩
abbrev main_v234 : Ref sig .tc := ⟨.hbm, 339, rfl⟩
abbrev main_v235 : Ref sig .tc := ⟨.hbm, 340, rfl⟩
abbrev main_v236 : Ref sig .tc := ⟨.hbm, 341, rfl⟩
abbrev main_c_59 : Ref sig .tc := ⟨.hbm, 342, rfl⟩
abbrev main_v237 : Ref sig .tc := ⟨.hbm, 343, rfl⟩
abbrev main_v238 : Ref sig .tc := ⟨.hbm, 344, rfl⟩
abbrev main_c_60 : Ref sig .tc := ⟨.hbm, 345, rfl⟩
abbrev main_v239 : Ref sig .tc := ⟨.hbm, 346, rfl⟩
abbrev main_v240 : Ref sig .tc := ⟨.hbm, 347, rfl⟩
abbrev main_v241 : Ref sig .tc := ⟨.hbm, 348, rfl⟩
abbrev main_v242 : Ref sig .tc := ⟨.hbm, 349, rfl⟩
abbrev main_v243 : Ref sig .tc := ⟨.hbm, 350, rfl⟩
abbrev main_v244 : Ref sig .tc := ⟨.hbm, 351, rfl⟩
abbrev main_cst_61 : Ref sig .tc := ⟨.hbm, 352, rfl⟩
abbrev main_v245 : Ref sig .tc := ⟨.hbm, 353, rfl⟩
abbrev main_v246 : Ref sig .tc := ⟨.hbm, 354, rfl⟩
abbrev main_v247 : Ref sig .tc := ⟨.hbm, 355, rfl⟩
abbrev main_v248 : Ref sig .tc := ⟨.hbm, 356, rfl⟩
abbrev main_v249 : Ref sig .tc := ⟨.hbm, 357, rfl⟩
abbrev main_v250 : Ref sig .tc := ⟨.hbm, 358, rfl⟩
abbrev main_v251 : Ref sig .tc := ⟨.hbm, 359, rfl⟩
abbrev main_v252 : Ref sig .tc := ⟨.hbm, 360, rfl⟩
abbrev main_cst_62 : Ref sig .tc := ⟨.hbm, 361, rfl⟩
abbrev main_v253 : Ref sig .tc := ⟨.hbm, 362, rfl⟩
abbrev main_v254 : Ref sig .tc := ⟨.hbm, 363, rfl⟩
abbrev main_cst_63 : Ref sig .tc := ⟨.hbm, 364, rfl⟩
abbrev main_v255 : Ref sig .tc := ⟨.hbm, 365, rfl⟩
abbrev main_v256 : Ref sig .tc := ⟨.hbm, 366, rfl⟩
abbrev main_v257 : Ref sig .tc := ⟨.hbm, 367, rfl⟩
abbrev main_v258 : Ref sig .tc := ⟨.hbm, 368, rfl⟩

abbrev nD : Nat := 1
abbrev τ : Topo := Topo.v7x

variable {F : FTy → Type} [FloatOps F]
-- ==== Proof.EdgeSum.lean ====
/-
  Sums over a graph's edges, in the extended reals. A graph on `n` nodes is given by the two ends of its edges; the
  number of edges from `j` to `i` is the entry of its adjacency matrix. A sum over the edges that end in `i` is a sum over
  the nodes `j`, each counted as often as there are edges from `j` to `i`.
-/
module

public import Idealize.ShloMosaic.Lib.Pointwise

@[expose] public section

set_option maxRecDepth 16384

noncomputable section

namespace Cert.Gat

open Idealize.ShloMosaic

/-- The number of edges that go from node `j` to node `i`. -/
def count {E N : Type} [Fintype E] [DecidableEq N] (src dst : E → N) (i j : N) : ℕ :=
  (Finset.univ.filter fun e => dst e = i ∧ src e = j).card

/-- The edges into `i`, each weighed by its source, sum to the nodes weighed by the number of their edges into `i`. -/
theorem sum_edges {E N : Type} [Fintype E] [Fintype N] [DecidableEq N] (src dst : E → N) (f : N → EReal) (i : N) :
    ∑ e ∈ Finset.univ.filter (fun e => dst e = i), f (src e) = ∑ j, (count src dst i j : EReal) * f j := by
  rw [← Finset.sum_fiberwise (Finset.univ.filter fun e => dst e = i) src]
  refine Finset.sum_congr rfl fun j _ => ?_
  rw [Finset.sum_congr rfl (fun e he => by rw [(Finset.mem_filter.1 he).2] : ∀ e ∈ _, f (src e) = f j), Finset.sum_const,
    EReal.nsmul_eq_mul, Finset.filter_filter]
  rfl

/-- A nonnegative real factor goes into a sum of extended reals, whatever the summands are. -/
theorem mul_sum_coe {ι : Type} (s : Finset ι) (f : ι → EReal) {r : ℝ} (hr : 0 ≤ r) :
    (r : EReal) * ∑ k ∈ s, f k = ∑ k ∈ s, (r : EReal) * f k := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

/-- The same on the right. -/
theorem sum_mul_coe {ι : Type} (s : Finset ι) (f : ι → EReal) {r : ℝ} (hr : 0 ≤ r) :
    (∑ k ∈ s, f k) * (r : EReal) = ∑ k ∈ s, f k * (r : EReal) := by
  rw [mul_comm, mul_sum_coe s f hr]
  exact Finset.sum_congr rfl fun k _ => mul_comm _ _

end Cert.Gat

end
-- ==== Proof.Attention.lean ====
/-
  One attention layer, as the kernel and as the reference write it, and that they are the same function.

  The kernel sums over NODES: it weighs node `j` at node `i` by `exp (leaky (p i + q j))` times the number of edges from
  `j` to `i`, and multiplies the weighted sum by one over (the sum of the weights plus a guard). The reference sums over
  EDGES, subtracts a real number per node (the largest logit of its edges, when that is finite) from every exponent, and
  divides every edge's weight by (the sum of the weights plus the guard in the same units). The shift cancels for ANY real
  shift, so the two agree at all extended reals.
-/
module

public import proofs.«01_k».proof.Proof.EdgeSum

@[expose] public section

set_option maxRecDepth 16384

noncomputable section

namespace Cert.Gat

open Idealize.ShloMosaic

variable {E N : Type} [Fintype E] [Fintype N] [DecidableEq N]

/-! ## The exponential and the division -/

/-- The exponential is nonnegative. -/
theorem exp_nonneg (x : EReal) : 0 ≤ Ideal.exp x := by
  induction x with
  | bot => exact le_rfl
  | top => exact le_top
  | coe r => exact EReal.coe_nonneg.2 (Real.exp_pos r).le

/-- A real number subtracted in the exponent is a positive real factor outside. -/
theorem exp_sub_coe (x : EReal) (r : ℝ) : Ideal.exp (x - (r : EReal)) = Ideal.exp x * ((Real.exp (-r) : ℝ) : EReal) := by
  have hs : (0 : ℝ) < Real.exp (-r) := Real.exp_pos _
  induction x with
  | bot => rw [EReal.bot_sub]; show (0 : EReal) = 0 * _; rw [zero_mul]
  | top => rw [EReal.top_sub_coe]; show (⊤ : EReal) = ⊤ * _; rw [EReal.top_mul_coe_of_pos hs]
  | coe a =>
    rw [← EReal.coe_sub]
    show ((Real.exp (a - r) : ℝ) : EReal) = ((Real.exp a : ℝ) : EReal) * _
    rw [← EReal.coe_mul, ← Real.exp_add, sub_eq_add_neg]

/-- Off zero a division is the product with the inverse. -/
theorem div_eq_mul_inv {x y : EReal} (h : y ≠ 0) : Ideal.div x y = x * y⁻¹ := by
  rw [Ideal.div, if_neg h]

/-- A positive real factor cancels from a division by a positive number. -/
theorem div_mul_cancel (x : EReal) {y : EReal} (hy : 0 < y) {s : ℝ} (hs : 0 < s) :
    Ideal.div (x * (s : EReal)) (y * (s : EReal)) = x * y⁻¹ := by
  have h0 : y * (s : EReal) ≠ 0 := mul_ne_zero hy.ne' (by exact_mod_cast hs.ne')
  rw [div_eq_mul_inv h0, EReal.mul_inv, mul_assoc, mul_left_comm (s : EReal), ← EReal.coe_inv, ← EReal.coe_mul,
    mul_inv_cancel₀ hs.ne', EReal.coe_one, mul_one]

/-- The inverse of a positive extended real is a nonnegative REAL number. -/
theorem inv_coe {y : EReal} (hy : 0 < y) : ∃ r : ℝ, 0 ≤ r ∧ y⁻¹ = (r : EReal) := by
  induction y with
  | bot => exact absurd hy (by simp)
  | top => exact ⟨0, le_rfl, by simp⟩
  | coe a => exact ⟨a⁻¹, inv_nonneg.2 (by exact_mod_cast hy.le), (EReal.coe_inv a).symm⟩

/-! ## The leaky rectifier -/

/-- The kernel's leaky rectifier is the larger of `z` and `c z`, the reference's chooses by the sign of `z`: the same for a
    slope between zero and one. -/
theorem max_leaky {c : ℝ} (h0 : 0 ≤ c) (h1 : c ≤ 1) (z : EReal) : max z (c * z) = if 0 ≤ z then z else c * z := by
  induction z with
  | bot =>
    rw [if_neg (by simp)]
    exact max_eq_right bot_le
  | top => rw [if_pos le_top]; exact max_eq_left le_top
  | coe a =>
    rw [← EReal.coe_mul]
    by_cases h : 0 ≤ a
    · rw [if_pos (by exact_mod_cast h)]
      exact max_eq_left (by exact_mod_cast mul_le_of_le_one_left h h1)
    · rw [if_neg (by exact_mod_cast h)]
      exact max_eq_right (by have := not_le.1 h; exact_mod_cast (by nlinarith : a ≤ c * a))

/-! ## The layer -/

/-- The kernel's layer at node `i`, for one feature `h` of the nodes: `L` the rectifier, `p` and `q` the two halves of the
    logits, `A` the adjacency matrix. -/
def nodeSum (L : EReal → EReal) (A : N → N → EReal) (ε : EReal) (p q h : N → EReal) (i : N) : EReal :=
  (∑ j, Ideal.exp (L (p i + q j)) * A i j * h j) * Ideal.div 1 ((∑ j, Ideal.exp (L (p i + q j)) * A i j) + ε)

/-- The reference's layer at node `i`: `g` the shift of each node. -/
def edgeSum (L : EReal → EReal) (src dst : E → N) (ε : EReal) (g p q h : N → EReal) (i : N) : EReal :=
  ∑ e ∈ Finset.univ.filter (fun e => dst e = i),
    Ideal.div (Ideal.exp (L (q (src e) + p (dst e)) - g (dst e)))
        ((∑ e' ∈ Finset.univ.filter (fun e' => dst e' = dst e), Ideal.exp (L (q (src e') + p (dst e')) - g (dst e')))
          + ε * Ideal.exp (-g (dst e)))
      * h (src e)

/-- A node's weights at the reference, without their shift: the same sum over the nodes, with the adjacency matrix. -/
theorem edgeWeights_eq (L : EReal → EReal) (src dst : E → N) (p q : N → EReal) {i : N} {r : ℝ} {g : N → EReal} (hg : g i = (r : EReal)) :
    ∑ e ∈ Finset.univ.filter (fun e => dst e = i), Ideal.exp (L (q (src e) + p (dst e)) - g (dst e))
      = (∑ j, Ideal.exp (L (p i + q j)) * (count src dst i j : EReal)) * ((Real.exp (-r) : ℝ) : EReal) := by
  rw [sum_mul_coe _ _ (Real.exp_pos _).le]
  rw [Finset.sum_congr rfl (g := fun e => (fun j => Ideal.exp (L (p i + q j)) * ((Real.exp (-r) : ℝ) : EReal)) (src e))
    (fun e he => by rw [(Finset.mem_filter.1 he).2, hg, exp_sub_coe, add_comm (q (src e))])]
  refine (sum_edges src dst (fun j => Ideal.exp (L (p i + q j)) * ((Real.exp (-r) : ℝ) : EReal)) i).trans ?_
  exact Finset.sum_congr rfl fun j _ => by ac_rfl

/-- The two forms of the layer agree, for any real shift of every node. -/
theorem edgeSum_eq_nodeSum (L : EReal → EReal) (src dst : E → N) {ε : ℝ} (hε : 0 < ε) (g p q h : N → EReal)
    (hg : ∀ i, ∃ r : ℝ, g i = (r : EReal)) (i : N) :
    edgeSum L src dst ε g p q h i = nodeSum L (fun i j => (count src dst i j : EReal)) ε p q h i := by
  obtain ⟨r, hr⟩ := hg i
  have hD : 0 ≤ ∑ j, Ideal.exp (L (p i + q j)) * (count src dst i j : EReal) :=
    Finset.sum_nonneg fun j _ => mul_nonneg (exp_nonneg _) (by exact_mod_cast Nat.zero_le _)
  have hpos : 0 < (∑ j, Ideal.exp (L (p i + q j)) * (count src dst i j : EReal)) + (ε : EReal) :=
    lt_of_lt_of_le (by exact_mod_cast hε : (0 : EReal) < ε) (le_add_of_nonneg_left hD)
  obtain ⟨R, hR0, hR⟩ := inv_coe hpos
  unfold edgeSum nodeSum
  rw [Finset.sum_congr rfl (g := fun e => (fun j => Ideal.exp (L (p i + q j)) * (R : EReal) * h j) (src e)) (fun e he => ?_)]
  · refine (sum_edges src dst (fun j => Ideal.exp (L (p i + q j)) * (R : EReal) * h j) i).trans ?_
    rw [div_eq_mul_inv hpos.ne', one_mul, hR, sum_mul_coe _ _ hR0]
    exact Finset.sum_congr rfl fun j _ => by ac_rfl
  · have hd := (Finset.mem_filter.1 he).2
    rw [hd, edgeWeights_eq L src dst p q hr, hr, exp_sub_coe, ← EReal.coe_neg]
    show Ideal.div _ (_ + (ε : EReal) * ((Real.exp (-r) : ℝ) : EReal)) * _ = _
    rw [← EReal.right_distrib_of_nonneg hD (by exact_mod_cast hε.le), div_mul_cancel _ hpos (Real.exp_pos _), hR,
      add_comm (q (src e))]

end Cert.Gat

end
-- ==== Proof.SelfLoops.lean ====
/-
  The edge list with one loop added at every node, and its adjacency counts as a sum of products of indicators.
-/
module

public import proofs.«01_k».proof.Proof.EdgeSum

@[expose] public section

set_option maxRecDepth 16384

noncomputable section

namespace Cert.Gat

open Idealize.ShloMosaic

/-- One end of every edge, the loops after the given edges. -/
def withLoops (s : Fin 832 → Fin 52) : Fin 884 → Fin 52 := Fin.addCases (m := 832) (n := 52) s id

theorem withLoops_edge (s : Fin 832 → Fin 52) (e : Fin 832) : withLoops s (Fin.castAdd 52 e) = s e := Fin.addCases_left _

theorem withLoops_loop (s : Fin 832 → Fin 52) (l : Fin 52) : withLoops s (Fin.natAdd 832 l) = l := Fin.addCases_right _

/-- The number of edges from `j` to `i`: the given edges' indicators, and the loop where the ends agree. -/
theorem count_withLoops (s t : Fin 832 → Fin 52) (i j : Fin 52) :
    (count (withLoops s) (withLoops t) i j : EReal)
      = (∑ e : Fin 832, (if t e = i then (1 : EReal) else 0) * (if s e = j then (1 : EReal) else 0)) + (if i = j then (1 : EReal) else 0) := by
  unfold count
  rw [Finset.card_filter, Nat.cast_sum]
  refine (Fin.sum_univ_add (a := 832) (b := 52) _).trans ?_
  congr 1
  · refine Finset.sum_congr rfl fun e _ => ?_
    rw [withLoops_edge, withLoops_edge]
    by_cases h1 : t e = i <;> by_cases h2 : s e = j <;> simp [h1, h2]
  · rw [Finset.sum_congr rfl (g := fun l : Fin 52 => if l = i then (if i = j then (1 : EReal) else 0) else 0) (fun l _ => by
      rw [withLoops_loop, withLoops_loop]
      by_cases h1 : l = i <;> by_cases h2 : i = j <;> simp [h1, h2])]
    simp

end Cert.Gat

end
-- ==== Proof.KernelLayer.lean ====
/-
  The kernel's adjacency matrix and its attention layer, read at one entry.
-/
module

public import proofs.«01_k».proof.Proof.Gen.KernelIdeal.Skeleton
public import proofs.«01_k».proof.Proof.Attention
public import proofs.«01_k».proof.Proof.SelfLoops
public import Idealize.ShloMosaic.Lib.Pointwise

@[expose] public section

set_option maxRecDepth 16384

noncomputable section

namespace Cert.KernelIdeal.Gat

open Idealize.ShloMosaic Idealize.ShloMosaic.TcCoe Idealize.SL.Sem
open Cert.KernelIdeal Cert.KernelIdeal.Gen Cert.Gat

/-! ## The adjacency matrix -/

/-- The indicator of two nodes' words being equal is the indicator of the nodes being equal. -/
theorem indicator (a b : Fin 52) :
    FloatOps.sitofp (F := Ideal) FTy.f32 (BitVec.setWidth 32 (IntOp.cmpi .eq (BitVec.ofNat 32 (a : ℕ)) (BitVec.ofNat 32 (b : ℕ)))) = if a = b then 1 else 0 := by
  have ha := a.isLt
  have hb := b.isLt
  have e : IntOp.cmpi .eq (BitVec.ofNat 32 (a : ℕ)) (BitVec.ofNat 32 (b : ℕ)) = BitVec.ofBool (decide (a = b)) := by
    have hd : (decide (BitVec.ofNat 32 (a : ℕ) = BitVec.ofNat 32 (b : ℕ))) = decide (a = b) := by
      refine decide_eq_decide.2 ⟨fun h => Fin.ext ?_, fun h => by rw [h]⟩
      have := congrArg BitVec.toNat h
      simp only [BitVec.toNat_ofNat] at this
      omega
    exact congrArg BitVec.ofBool ((by rfl : _ = (decide (BitVec.ofNat 32 (a : ℕ) = BitVec.ofNat 32 (b : ℕ)))).trans hd)
  rw [e]
  show ((((BitVec.setWidth 32 (BitVec.ofBool (decide (a = b)))).toInt : ℝ)) : EReal) = _
  by_cases h : a = b <;> simp [h]

/-- The adjacency matrix counts the edges between two nodes, the loops included: `v` holds the sources, `w` the destinations. -/
theorem adjacency_apply {v w : IVec S1x832 32} {s t : Fin 832 → Fin 52} (hs : ∀ e : Fin 832, v (ix2 0 e) = BitVec.ofNat 32 (s e))
    (ht : ∀ e : Fin 832, w (ix2 0 e) = BitVec.ofNat 32 (t e)) (i j : Fin 52) :
    k0_pay2 (F := Ideal) v w (ix2 i j) = (count (withLoops s) (withLoops t) i j : EReal) := by
  rw [count_withLoops]
  pointwise [k0_pay2]
  simp only [hs, ht, indicator]

/-! ## One layer -/

/-- The masked exponentials of the leaky logits: `A` the adjacency matrix, `h` the features. -/
def scores (A : FVec Ideal S52x52 .f32) (h : FVec Ideal S52x512 .f32) (av dv : FVec Ideal S1x512 .f32) : FVec Ideal S52x52 .f32 :=
  let z : FVec Ideal S52x52 .f32 := matmul dot_S52x2_S2x52_S52x52_1_0_0_1_n_n none
    (concatenate S52x2 1 [⟨S52x1, matmul dot_S52x512_S1x512_S52x1_1_1_0_0_n_n none h (shapeCast S1x512 dv shapeCasts_S1x512_S1x512) (constant S52x1 .f32 0x00000000#32)⟩, ⟨S52x1, k0_pay4 (F := Ideal)⟩] concatenates_S52x1_S52x1_S52x2_d1)
    (concatenate S2x52 0 [⟨S1x52, k0_pay3 (F := Ideal)⟩, ⟨S1x52, matmul dot_S1x512_S52x512_S1x52_1_1_0_0_n_n none (shapeCast S1x512 av shapeCasts_S1x512_S1x512) h (constant S1x52 .f32 0x00000000#32)⟩] concatenates_S1x52_S1x52_S2x52_d0)
    (constant S52x52 .f32 0x00000000#32)
  mulf (exp (maximumf z (mulf (broadcast S52x52 (Scalar.ofBits .f32 0x3E4CCCCD#32)) z))) A

/-- The weighted sums of the features, divided by the sums of the weights. -/
def attend (E : FVec Ideal S52x52 .f32) (h : FVec Ideal S52x512 .f32) : FVec Ideal S52x512 .f32 :=
  mulf (matmul dot_S52x52_S52x512_S52x512_1_0_0_1_n_n none E h (constant S52x512 .f32 0x00000000#32))
    (broadcastTo S52x512 (divf (broadcast S52x1 (Scalar.ofBits .f32 0x3F800000#32))
      (addf (matmul dot_S52x52_S52x1_S52x1_1_0_0_1_n_n none E (k0_pay4 (F := Ideal)) (constant S52x1 .f32 0x00000000#32)) (broadcast S52x1 (Scalar.ofBits .f32 0x24E69595#32)))) broadcasts_S52x1_S52x512)

theorem pay6_eq (v w : IVec S1x832 32) (x : FVec Ideal S52x512 .f32) (W : FVec Ideal S512x512 .f32) (av dv : FVec Ideal S1x512 .f32) :
    k0_pay6 (F := Ideal) v w x W av dv = scores (k0_pay2 v w) (k0_pay5 x W) av dv := rfl

theorem pay7_eq (h : FVec Ideal S52x512 .f32) (E : FVec Ideal S52x52 .f32) (b : FVec Ideal S1x512 .f32) :
    k0_pay7 (F := Ideal) (k0_pay4 (F := Ideal)) h E (constant S52x1 .f32 0x00000000#32) b
      = addf (attend E h) (broadcastTo S52x512 (shapeCast S1x512 b shapeCasts_S1x512_S1x512) broadcasts_S1x512_S52x512) := rfl

theorem pay8_eq (A : FVec Ideal S52x52 .f32) (h : FVec Ideal S52x512 .f32) (E : FVec Ideal S52x52 .f32) (b : FVec Ideal S1x512 .f32) (W : FVec Ideal S512x512 .f32) (av dv : FVec Ideal S1x512 .f32) :
    k0_pay8 (F := Ideal) A (k0_pay3 (F := Ideal)) (k0_pay4 (F := Ideal)) h E (constant S52x1 .f32 0x00000000#32) b W av dv
      = attend (scores A (k0_pay5 (k0_pay7 (k0_pay4 (F := Ideal)) h E (constant S52x1 .f32 0x00000000#32) b) W) av dv) (k0_pay5 (k0_pay7 (k0_pay4 (F := Ideal)) h E (constant S52x1 .f32 0x00000000#32) b) W) := rfl

theorem pay5_apply (x : FVec Ideal S52x512 .f32) (W : FVec Ideal S512x512 .f32) (i : Fin 52) (k : Fin 512) :
    k0_pay5 (F := Ideal) x W (ix2 i k) = ∑ j : Fin 512, x (ix2 i j) * W (ix2 j k) := by
  pointwise [k0_pay5]

/-- The kernel's leaky rectifier. -/
def rectifier (z : EReal) : EReal := max z (Ideal.ofBits .f32 0x3E4CCCCD#32 * z)

/-- The product of a node's features with a row. -/
def dot (h : FVec Ideal S52x512 .f32) (a : FVec Ideal S1x512 .f32) (i : Fin 52) : EReal := ∑ k : Fin 512, h (ix2 i k) * a (ix2 0 k)

theorem scores_apply (A : FVec Ideal S52x52 .f32) (h : FVec Ideal S52x512 .f32) (av dv : FVec Ideal S1x512 .f32) (i j : Fin 52) :
    scores A h av dv (ix2 i j) = Ideal.exp (rectifier (dot h dv i + dot h av j)) * A (ix2 i j) := by
  have hq : dot h av j = ∑ k : Fin 512, av (ix2 0 k) * h (ix2 j k) := Finset.sum_congr rfl fun k _ => mul_comm _ _
  rw [hq]
  pointwise [scores, k0_pay3, k0_pay4, rectifier, dot]
  simp only [Finset.univ_unique, Finset.sum_singleton]

theorem attend_apply (E : FVec Ideal S52x52 .f32) (h : FVec Ideal S52x512 .f32) (i : Fin 52) (k : Fin 512) :
    attend E h (ix2 i k) = (∑ j : Fin 52, E (ix2 i j) * h (ix2 j k)) * Ideal.div 1 ((∑ j : Fin 52, E (ix2 i j)) + Ideal.ofBits .f32 0x24E69595#32) := by
  pointwise [attend, k0_pay4]

/-- The layer's aggregation at one node and feature. -/
theorem layer_apply (A : FVec Ideal S52x52 .f32) (h : FVec Ideal S52x512 .f32) (av dv : FVec Ideal S1x512 .f32) (i : Fin 52) (k : Fin 512) :
    attend (scores A h av dv) h (ix2 i k)
      = nodeSum rectifier (fun i j => A (ix2 i j)) (Ideal.ofBits .f32 0x24E69595#32) (dot h dv) (dot h av) (fun j => h (ix2 j k)) i := by
  rw [attend_apply]
  simp only [scores_apply, nodeSum]

end Cert.KernelIdeal.Gat

end
-- ==== Proof.Normalise.lean ====
/-
  The graph convolution over the degrees' reciprocal roots, as the kernel and as the reference write it. The kernel
  scales the nodes before and after the product with the adjacency matrix; the reference scales every edge by both of its
  ends' factors. The kernel takes the reciprocal root of the row sums of the adjacency matrix, the reference the power
  `-1/2` of the number of edges.
-/
module

public import proofs.«01_k».proof.Proof.EdgeSum

@[expose] public section

set_option maxRecDepth 16384

noncomputable section

namespace Cert.Gat

open Idealize.ShloMosaic

variable {E N : Type} [Fintype E] [Fintype N] [DecidableEq N]

/-- The number of edges into node `i`. -/
def degree (dst : E → N) (i : N) : ℕ := (Finset.univ.filter fun e => dst e = i).card

/-- The reciprocal root of a node's degree, zero where no edge ends. -/
def invRoot (dst : E → N) (i : N) : ℝ := if 0 < degree dst i then (Real.sqrt (degree dst i))⁻¹ else 0

theorem invRoot_nonneg (dst : E → N) (i : N) : 0 ≤ invRoot dst i := by
  unfold invRoot; split
  · exact inv_nonneg.2 (Real.sqrt_nonneg _)
  · exact le_rfl

/-- A row of the adjacency matrix sums to the degree. -/
theorem sum_count (src dst : E → N) (i : N) : ∑ j, (count src dst i j : EReal) = (degree dst i : EReal) := by
  have h := sum_edges src dst (fun _ => 1) i
  simp only [mul_one] at h
  rw [← h, Finset.sum_const, EReal.nsmul_eq_mul, mul_one]
  rfl

/-- Ones summed over the edges into a node are its degree. -/
theorem sum_one (dst : E → N) (i : N) : ∑ e ∈ Finset.univ.filter (fun e => dst e = i), (1 : EReal) = (degree dst i : EReal) := by
  rw [Finset.sum_const, EReal.nsmul_eq_mul, mul_one]
  rfl

theorem natCast_eq (n : ℕ) : (n : EReal) = ((n : ℝ) : EReal) := by norm_cast

/-- The kernel's reciprocal root of the degree. -/
theorem rsqrt_degree (dst : E → N) (i : N) :
    (if (0 : EReal) < (degree dst i : EReal) then Ideal.rsqrt (degree dst i : EReal) else 0) = ((invRoot dst i : ℝ) : EReal) := by
  unfold invRoot
  by_cases h : 0 < degree dst i
  · have h' : (0 : ℝ) < (degree dst i : ℝ) := by exact_mod_cast h
    rw [if_pos (by exact_mod_cast h), if_pos h, natCast_eq]
    show (if (degree dst i : ℝ) < 0 then (⊥ : EReal) else if (degree dst i : ℝ) = 0 then ⊤ else _) = _
    rw [if_neg h'.not_gt, if_neg h'.ne']
  · rw [if_neg (by exact_mod_cast h), if_neg h, EReal.coe_zero]

/-- The reference's power `-1/2` of the degree. -/
theorem pow_degree (dst : E → N) (i : N) :
    (if (0 : EReal) < (degree dst i : EReal) then Ideal.pow (degree dst i : EReal) ((-(1 / 2) : ℝ) : EReal) else 0)
      = ((invRoot dst i : ℝ) : EReal) := by
  unfold invRoot
  by_cases h : 0 < degree dst i
  · have h' : (0 : ℝ) < (degree dst i : ℝ) := by exact_mod_cast h
    rw [if_pos (by exact_mod_cast h), if_pos h, natCast_eq, Ideal.pow_coe_coe]
    congr 1
    show (degree dst i : ℝ) ^ (-(1 / 2) : ℝ) = _
    rw [Real.rpow_neg h'.le, Real.sqrt_eq_rpow]
  · rw [if_neg (by exact_mod_cast h), if_neg h, EReal.coe_zero]

/-- The convolution scaled edge by edge is the convolution scaled node by node. -/
theorem sum_scaled (src dst : E → N) (d : N → ℝ) (hd : ∀ i, 0 ≤ d i) (f : N → EReal) (i : N) :
    ∑ e ∈ Finset.univ.filter (fun e => dst e = i), ((d (src e) : ℝ) : EReal) * ((d (dst e) : ℝ) : EReal) * f (src e)
      = ((d i : ℝ) : EReal) * ∑ j, (count src dst i j : EReal) * (((d j : ℝ) : EReal) * f j) := by
  rw [mul_sum_coe _ _ (hd i)]
  rw [Finset.sum_congr rfl (g := fun e => (fun j => ((d j : ℝ) : EReal) * ((d i : ℝ) : EReal) * f j) (src e))
    (fun e he => by rw [(Finset.mem_filter.1 he).2])]
  refine (sum_edges src dst (fun j => ((d j : ℝ) : EReal) * ((d i : ℝ) : EReal) * f j) i).trans ?_
  exact Finset.sum_congr rfl fun j _ => by ac_rfl

end Cert.Gat

end
-- ==== Proof.Gates.lean ====
/-
  The two gates as functions of the node features, in the form both programs are read at.
-/
module

public import proofs.«01_k».proof.Proof.Normalise

@[expose] public section

noncomputable section

namespace Cert.Gat

open Idealize.ShloMosaic

/-- The largest of finitely many numbers. -/
def largestOf {n : ℕ} (f : Fin n → EReal) : EReal := Finset.univ.fold max (Ideal.ofBits .f32 0xFF800000#32) f

/-- One rectified layer of the channels: `W` its matrix, contracted along its second axis, `b` its bias. -/
def perceptron (W : Fin 512 → Fin 512 → EReal) (b : Fin 512 → EReal) (u : Fin 512 → EReal) (k : Fin 512) : EReal :=
  max ((∑ j, u j * W k j) + b k) 0

/-- Every channel's gate: the layer of the channels' means and of their maxima over the nodes. -/
def channelGate (W : Fin 512 → Fin 512 → EReal) (b : Fin 512 → EReal) (y : Fin 52 → Fin 512 → EReal) (k : Fin 512) : EReal :=
  Ideal.logistic (perceptron W b (fun j => Ideal.div (∑ i, y i j) (Ideal.ofBits .f32 0x42500000#32)) k
    + perceptron W b (fun j => largestOf fun i => y i j) k)

/-- The features behind the channels' gate. -/
def channelGated (W : Fin 512 → Fin 512 → EReal) (b : Fin 512 → EReal) (y : Fin 52 → Fin 512 → EReal) (i : Fin 52) (k : Fin 512) : EReal :=
  y i k * channelGate W b y k

/-- Every node's gate: the graph convolution of the nodes' largest features. `A` is the adjacency matrix, `d` the nodes'
    factors, `w` and `c` the convolution's weight and bias. -/
def nodeGate (A : Fin 52 → Fin 52 → EReal) (d : Fin 52 → EReal) (w c : EReal) (z : Fin 52 → Fin 512 → EReal) (i : Fin 52) : EReal :=
  Ideal.logistic (d i * (∑ j, A i j * (d j * (largestOf (z j) * w))) + c)

end Cert.Gat

end
-- ==== Proof.KernelGates.lean ====
/-
  The kernel's two gates, read at one entry.
-/
module

public import proofs.«01_k».proof.Proof.KernelLayer
public import proofs.«01_k».proof.Proof.Gates

@[expose] public section

set_option maxRecDepth 16384

noncomputable section

namespace Cert.KernelIdeal.Gat

open Idealize.ShloMosaic Idealize.ShloMosaic.TcCoe Idealize.SL.Sem
open Cert.KernelIdeal Cert.KernelIdeal.Gen Cert.Gat

/-- The features before the gates: the second layer, its bias, the residual, rectified. -/
def features (y agg : FVec Ideal S52x512 .f32) (b : FVec Ideal S1x512 .f32) : FVec Ideal S52x512 .f32 :=
  maximumf (addf (addf agg (broadcastTo S52x512 b broadcasts_S1x512_S52x512)) y) (broadcast S52x512 (Scalar.ofBits .f32 0x00000000#32))

theorem features_apply (y agg : FVec Ideal S52x512 .f32) (b : FVec Ideal S1x512 .f32) (i : Fin 52) (k : Fin 512) :
    features y agg b (ix2 i k) = max (agg (ix2 i k) + b (ix2 0 k) + y (ix2 i k)) 0 := by
  pointwise [features]

/-- A vector of the channels through the gate's layer. -/
def perceptronV (u : FVec Ideal S1x512 .f32) (W : FVec Ideal S512x512 .f32) (b : FVec Ideal S1x512 .f32) : FVec Ideal S1x512 .f32 :=
  maximumf (addf (matmul dot_S1x512_S512x512_S1x512_1_1_0_0_n_n none u W (constant S1x512 .f32 0x00000000#32)) (shapeCast S1x512 b shapeCasts_S1x512_S1x512)) (broadcast S1x512 (Scalar.ofBits .f32 0x00000000#32))

theorem perceptronV_apply (u : FVec Ideal S1x512 .f32) (W : FVec Ideal S512x512 .f32) (b : FVec Ideal S1x512 .f32) (k : Fin 512) :
    perceptronV u W b (ix2 0 k) = perceptron (fun k j => W (ix2 k j)) (fun k => b (ix2 0 k)) (fun j => u (ix2 0 j)) k := by
  pointwise [perceptronV, perceptron]

/-- The channels' means over the nodes. -/
def means (y : FVec Ideal S52x512 .f32) : FVec Ideal S1x512 .f32 :=
  divf (shapeCast S1x512 (multiReduction .add [0] S512 y 0x00000000#32 reduces_S52x512_S512 (.inl rfl) rfl) shapeCasts_S512_S1x512) (broadcast S1x512 (Scalar.ofBits .f32 0x42500000#32))

theorem means_apply (y : FVec Ideal S52x512 .f32) (k : Fin 512) :
    means y (ix2 0 k) = Ideal.div (∑ i : Fin 52, y (ix2 i k)) (Ideal.ofBits .f32 0x42500000#32) := by
  pointwise [means]

/-- The channels' maxima over the nodes. -/
def maxima (y : FVec Ideal S52x512 .f32) : FVec Ideal S1x512 .f32 :=
  shapeCast S1x512 (multiReduction .maximumf [0] S512 y 0xFF800000#32 reduces_S52x512_S512 (.inl rfl) rfl) shapeCasts_S512_S1x512

theorem maxima_apply (y : FVec Ideal S52x512 .f32) (k : Fin 512) :
    maxima y (ix2 0 k) = largestOf fun i : Fin 52 => y (ix2 i k) := by
  pointwise [maxima, largestOf]

theorem pay10_eq (y agg : FVec Ideal S52x512 .f32) (b : FVec Ideal S1x512 .f32) (W : FVec Ideal S512x512 .f32) (bm : FVec Ideal S1x512 .f32) :
    k0_pay10 (F := Ideal) y agg b W bm W bm
      = mulf (features y agg b) (broadcastTo S52x512 (logistic (addf (perceptronV (means (features y agg b)) W bm) (perceptronV (maxima (features y agg b)) W bm))) broadcasts_S1x512_S52x512) := rfl

/-- The features behind the channels' gate. -/
theorem pay10_apply (y agg : FVec Ideal S52x512 .f32) (b : FVec Ideal S1x512 .f32) (W : FVec Ideal S512x512 .f32) (bm : FVec Ideal S1x512 .f32) (i : Fin 52) (k : Fin 512) :
    k0_pay10 (F := Ideal) y agg b W bm W bm (ix2 i k)
      = channelGated (fun k j => W (ix2 k j)) (fun k => bm (ix2 0 k)) (fun i k => features y agg b (ix2 i k)) i k := by
  rw [pay10_eq]
  pointwise
  simp only [perceptronV_apply, means_apply, maxima_apply, channelGated, channelGate]

/-- The nodes' largest features. -/
theorem pay11_apply (y agg : FVec Ideal S52x512 .f32) (b : FVec Ideal S1x512 .f32) (W : FVec Ideal S512x512 .f32) (bm : FVec Ideal S1x512 .f32) (i : Fin 52) :
    k0_pay11 (F := Ideal) y agg b W bm W bm (ix2 i 0) = largestOf fun k : Fin 512 => k0_pay10 (F := Ideal) y agg b W bm W bm (ix2 i k) := by
  pointwise [k0_pay11, largestOf]

/-- The nodes' factors are the reciprocal roots of their degrees. -/
theorem pay12_apply (A : FVec Ideal S52x52 .f32) (src dst : Fin 884 → Fin 52) (hA : ∀ i j, A (ix2 i j) = (count src dst i j : EReal)) (i : Fin 52) :
    k0_pay12 (F := Ideal) A (ix2 i 0) = ((invRoot dst i : ℝ) : EReal) := by
  rw [← rsqrt_degree, ← sum_count src]
  pointwise [k0_pay12]
  simp only [hA]

/-- What the kernel stores: the features behind both gates. -/
theorem pay1_apply (A : FVec Ideal S52x52 .f32) (z : FVec Ideal S52x512 .f32) (u d : FVec Ideal S52x1 .f32) (w c : FVec Ideal S1x1 .f32) (i : Fin 52) (k : Fin 512)
    (hu : ∀ j : Fin 52, u (ix2 j 0) = largestOf fun k : Fin 512 => z (ix2 j k)) :
    k0_pay1 (F := Ideal) A z u d w c (ix2 i k)
      = z (ix2 i k) * nodeGate (fun i j => A (ix2 i j)) (fun j => d (ix2 j 0)) (w (ix2 0 0)) (c (ix2 0 0)) (fun j k => z (ix2 j k)) i := by
  pointwise [k0_pay1]
  simp only [hu, nodeGate]

end Cert.KernelIdeal.Gat

end
-- ==== Proof.Block.lean ====
/-
  The whole block as one function of plain tables: two attention layers over a table of edge counts, the residual and
  its rectifier, the channel gate and the node gate. Both programs are shown to compute it.
-/
module

public import proofs.«01_k».proof.Proof.Attention
public import proofs.«01_k».proof.Proof.Gates

@[expose] public section

noncomputable section

namespace Cert.Gat

open Idealize.ShloMosaic

/-- The leaky rectifier, with the slope both programs write as a single-precision constant. -/
def leaky (z : Ideal .f32) : Ideal .f32 := max z (Ideal.ofBits .f32 0x3E4CCCCD#32 * z)

/-- The product of a table of features and a table of weights. -/
def linear (x : Fin 52 → Fin 512 → Ideal .f32) (W : Fin 512 → Fin 512 → Ideal .f32) (i : Fin 52) (k : Fin 512) : Ideal .f32 :=
  ∑ j, x i j * W j k

/-- One attention layer: `A i j` edges run from node `j` to node `i`, `av` scores the sources and `dv` the destinations. -/
def attentionLayer (A : Fin 52 → Fin 52 → Ideal .f32) (x : Fin 52 → Fin 512 → Ideal .f32) (W : Fin 512 → Fin 512 → Ideal .f32)
    (av dv b : Fin 512 → Ideal .f32) (i : Fin 52) (k : Fin 512) : Ideal .f32 :=
  nodeSum leaky A (Ideal.ofBits .f32 0x24E69595#32) (fun i => ∑ k, linear x W i k * dv k)
    (fun j => ∑ k, linear x W j k * av k) (fun j => linear x W j k) i + b k

/-- The second layer on the first one's output, plus that output, rectified. -/
def residualLayer (A : Fin 52 → Fin 52 → Ideal .f32) (y : Fin 52 → Fin 512 → Ideal .f32) (W : Fin 512 → Fin 512 → Ideal .f32)
    (av dv b : Fin 512 → Ideal .f32) (i : Fin 52) (k : Fin 512) : Ideal .f32 :=
  max (attentionLayer A y W av dv b i k + y i k) 0

/-- Features `z` scaled node by node by the node gate. -/
def nodeGated (A : Fin 52 → Fin 52 → Ideal .f32) (d : Fin 52 → Ideal .f32) (w c : Ideal .f32)
    (z : Fin 52 → Fin 512 → Ideal .f32) (i : Fin 52) (k : Fin 512) : Ideal .f32 :=
  z i k * nodeGate A d w c z i

/-- The whole block. -/
def block (A : Fin 52 → Fin 52 → Ideal .f32) (d : Fin 52 → Ideal .f32) (x : Fin 52 → Fin 512 → Ideal .f32)
    (W₀ : Fin 512 → Fin 512 → Ideal .f32) (a₀ d₀ b₀ : Fin 512 → Ideal .f32)
    (W₁ : Fin 512 → Fin 512 → Ideal .f32) (a₁ d₁ b₁ : Fin 512 → Ideal .f32)
    (Wm : Fin 512 → Fin 512 → Ideal .f32) (bm : Fin 512 → Ideal .f32) (w c : Ideal .f32) : Fin 52 → Fin 512 → Ideal .f32 :=
  nodeGated A d w c (channelGated Wm bm (residualLayer A (attentionLayer A x W₀ a₀ d₀ b₀) W₁ a₁ d₁ b₁))

end Cert.Gat

end

end
-- ==== Proof.KernelBlock.lean ====
/-
  What the kernel's body stores, as the whole block's function of the loaded tables.
-/
module

public import proofs.«01_k».proof.Proof.KernelGates
public import proofs.«01_k».proof.Proof.Block

@[expose] public section

set_option maxRecDepth 16384

noncomputable section

namespace Cert.KernelIdeal.Gat

open Idealize.ShloMosaic Idealize.ShloMosaic.TcCoe Idealize.SL.Sem
open Cert.KernelIdeal Cert.KernelIdeal.Gen Cert.Gat

theorem pay9_apply (b : FVec Ideal S1x512 .f32) (k : Fin 512) : k0_pay9 (F := Ideal) b (ix2 0 k) = b (ix2 0 k) := by
  pointwise [k0_pay9]

/-- The aggregation of the kernel's attention layer is the layer without its bias. -/
theorem aggregate_apply (A : FVec Ideal S52x52 .f32) (x : FVec Ideal S52x512 .f32) (W : FVec Ideal S512x512 .f32) (av dv : FVec Ideal S1x512 .f32)
    (b : Fin 512 → Ideal .f32) (i : Fin 52) (k : Fin 512) :
    attend (scores A (k0_pay5 x W) av dv) (k0_pay5 x W) (ix2 i k) + b k
      = attentionLayer (fun i j => A (ix2 i j)) (fun i j => x (ix2 i j)) (fun j k => W (ix2 j k)) (fun k => av (ix2 0 k)) (fun k => dv (ix2 0 k)) b i k := by
  have e (a : FVec Ideal S1x512 .f32) : dot (k0_pay5 x W) a
      = fun i => ∑ k, linear (fun i j => x (ix2 i j)) (fun j k => W (ix2 j k)) i k * a (ix2 0 k) := by
    funext i
    simp only [dot, linear, pay5_apply]
  have hr : rectifier = leaky := rfl
  rw [layer_apply, e, e, hr]
  simp only [attentionLayer, linear, pay5_apply]

/-- The first layer's output, as the body computes it. -/
def firstLayer (v w : IVec S1x832 32) (x : FVec Ideal S52x512 .f32) (W : FVec Ideal S512x512 .f32) (av dv b : FVec Ideal S1x512 .f32) : FVec Ideal S52x512 .f32 :=
  k0_pay7 (k0_pay4 (F := Ideal)) (k0_pay5 x W) (k0_pay6 v w x W av dv) (constant S52x1 .f32 0x00000000#32) b

theorem firstLayer_apply (v w : IVec S1x832 32) (x : FVec Ideal S52x512 .f32) (W : FVec Ideal S512x512 .f32) (av dv b : FVec Ideal S1x512 .f32) (i : Fin 52) (k : Fin 512) :
    firstLayer v w x W av dv b (ix2 i k)
      = attentionLayer (fun i j => k0_pay2 (F := Ideal) v w (ix2 i j)) (fun i j => x (ix2 i j)) (fun j k => W (ix2 j k)) (fun k => av (ix2 0 k)) (fun k => dv (ix2 0 k)) (fun k => b (ix2 0 k)) i k := by
  rw [← aggregate_apply, firstLayer, pay7_eq, pay6_eq]
  pointwise

/-- The second layer's aggregation, as the body computes it. -/
def secondLayer (v w : IVec S1x832 32) (x : FVec Ideal S52x512 .f32) (W : FVec Ideal S512x512 .f32) (av dv b : FVec Ideal S1x512 .f32)
    (W₁ : FVec Ideal S512x512 .f32) (a₁ d₁ : FVec Ideal S1x512 .f32) : FVec Ideal S52x512 .f32 :=
  k0_pay8 (k0_pay2 v w) (k0_pay3 (F := Ideal)) (k0_pay4 (F := Ideal)) (k0_pay5 x W) (k0_pay6 v w x W av dv) (constant S52x1 .f32 0x00000000#32) b W₁ a₁ d₁

theorem secondLayer_eq (v w : IVec S1x832 32) (x : FVec Ideal S52x512 .f32) (W : FVec Ideal S512x512 .f32) (av dv b : FVec Ideal S1x512 .f32)
    (W₁ : FVec Ideal S512x512 .f32) (a₁ d₁ : FVec Ideal S1x512 .f32) :
    secondLayer v w x W av dv b W₁ a₁ d₁
      = attend (scores (k0_pay2 v w) (k0_pay5 (firstLayer v w x W av dv b) W₁) a₁ d₁) (k0_pay5 (firstLayer v w x W av dv b) W₁) := by
  rw [secondLayer, firstLayer, pay8_eq]

/-- What the body stores: the two layers, the residual and the two gates of the loaded tables. -/
def stored (v w : IVec S1x832 32) (x : FVec Ideal S52x512 .f32) (W₀ : FVec Ideal S512x512 .f32) (a₀ d₀ b₀ : FVec Ideal S1x512 .f32)
    (W₁ : FVec Ideal S512x512 .f32) (a₁ d₁ b₁ : FVec Ideal S1x512 .f32) (Wm : FVec Ideal S512x512 .f32) (bm : FVec Ideal S1x512 .f32)
    (wg bg : FVec Ideal S1x1 .f32) : FVec Ideal S52x512 .f32 :=
  k0_pay1 (k0_pay2 v w)
    (k0_pay10 (firstLayer v w x W₀ a₀ d₀ b₀) (secondLayer v w x W₀ a₀ d₀ b₀ W₁ a₁ d₁) (k0_pay9 b₁) Wm bm Wm bm)
    (k0_pay11 (firstLayer v w x W₀ a₀ d₀ b₀) (secondLayer v w x W₀ a₀ d₀ b₀ W₁ a₁ d₁) (k0_pay9 b₁) Wm bm Wm bm)
    (k0_pay12 (k0_pay2 v w)) wg bg

/-- What the body stores is the whole block over the counts of the edges its two rows list, every node's loop added. -/
theorem stored_apply {v w : IVec S1x832 32} {s t : Fin 832 → Fin 52} (hs : ∀ e : Fin 832, v (ix2 0 e) = BitVec.ofNat 32 (s e))
    (ht : ∀ e : Fin 832, w (ix2 0 e) = BitVec.ofNat 32 (t e))
    (x : FVec Ideal S52x512 .f32) (W₀ : FVec Ideal S512x512 .f32) (a₀ d₀ b₀ : FVec Ideal S1x512 .f32)
    (W₁ : FVec Ideal S512x512 .f32) (a₁ d₁ b₁ : FVec Ideal S1x512 .f32) (Wm : FVec Ideal S512x512 .f32) (bm : FVec Ideal S1x512 .f32)
    (wg bg : FVec Ideal S1x1 .f32) (i : Fin 52) (k : Fin 512) :
    stored v w x W₀ a₀ d₀ b₀ W₁ a₁ d₁ b₁ Wm bm wg bg (ix2 i k)
      = block (fun i j => (count (withLoops s) (withLoops t) i j : EReal)) (fun j => ((invRoot (withLoops t) j : ℝ) : EReal))
          (fun i j => x (ix2 i j)) (fun j k => W₀ (ix2 j k)) (fun k => a₀ (ix2 0 k)) (fun k => d₀ (ix2 0 k)) (fun k => b₀ (ix2 0 k))
          (fun j k => W₁ (ix2 j k)) (fun k => a₁ (ix2 0 k)) (fun k => d₁ (ix2 0 k)) (fun k => b₁ (ix2 0 k))
          (fun k j => Wm (ix2 k j)) (fun k => bm (ix2 0 k)) (wg (ix2 0 0)) (bg (ix2 0 0)) i k := by
  have hA : ∀ i j, k0_pay2 (F := Ideal) v w (ix2 i j) = (count (withLoops s) (withLoops t) i j : EReal) := adjacency_apply hs ht
  have hd : ∀ j : Fin 52, k0_pay12 (F := Ideal) (k0_pay2 v w) (ix2 j 0) = ((invRoot (withLoops t) j : ℝ) : EReal) := fun j =>
    pay12_apply _ _ _ hA j
  have hf : ∀ i k, features (firstLayer v w x W₀ a₀ d₀ b₀) (secondLayer v w x W₀ a₀ d₀ b₀ W₁ a₁ d₁) (k0_pay9 b₁) (ix2 i k)
      = residualLayer (fun i j => (count (withLoops s) (withLoops t) i j : EReal))
          (attentionLayer (fun i j => (count (withLoops s) (withLoops t) i j : EReal)) (fun i j => x (ix2 i j)) (fun j k => W₀ (ix2 j k))
            (fun k => a₀ (ix2 0 k)) (fun k => d₀ (ix2 0 k)) (fun k => b₀ (ix2 0 k)))
          (fun j k => W₁ (ix2 j k)) (fun k => a₁ (ix2 0 k)) (fun k => d₁ (ix2 0 k)) (fun k => b₁ (ix2 0 k)) i k := by
    intro i k
    rw [features_apply, pay9_apply, secondLayer_eq, aggregate_apply _ _ _ _ _ (fun k => b₁ (ix2 0 k))]
    simp only [firstLayer_apply, hA, residualLayer]
  rw [stored, pay1_apply _ _ _ _ _ _ _ _ (pay11_apply _ _ _ _ _)]
  simp only [pay10_apply, hf, hA, hd, block, nodeGated]

/-- The same for tables that the loaded ones are known to hold. -/
theorem stored_of_tables {v w : IVec S1x832 32} {s t : Fin 832 → Fin 52} (hs : ∀ e : Fin 832, v (ix2 0 e) = BitVec.ofNat 32 (s e))
    (ht : ∀ e : Fin 832, w (ix2 0 e) = BitVec.ofNat 32 (t e))
    {x : FVec Ideal S52x512 .f32} {W₀ : FVec Ideal S512x512 .f32} {a₀ d₀ b₀ : FVec Ideal S1x512 .f32}
    {W₁ : FVec Ideal S512x512 .f32} {a₁ d₁ b₁ : FVec Ideal S1x512 .f32} {Wm : FVec Ideal S512x512 .f32} {bm : FVec Ideal S1x512 .f32}
    {wg bg : FVec Ideal S1x1 .f32} {X : Fin 52 → Fin 512 → Ideal .f32} {U₀ U₁ Um : Fin 512 → Fin 512 → Ideal .f32}
    {p₀ q₀ r₀ p₁ q₁ r₁ rm : Fin 512 → Ideal .f32} {u c : Ideal .f32}
    (hx : ∀ i j, x (ix2 i j) = X i j) (hW₀ : ∀ j k, W₀ (ix2 j k) = U₀ j k) (ha₀ : ∀ k, a₀ (ix2 0 k) = p₀ k) (hd₀ : ∀ k, d₀ (ix2 0 k) = q₀ k)
    (hb₀ : ∀ k, b₀ (ix2 0 k) = r₀ k) (hW₁ : ∀ j k, W₁ (ix2 j k) = U₁ j k) (ha₁ : ∀ k, a₁ (ix2 0 k) = p₁ k) (hd₁ : ∀ k, d₁ (ix2 0 k) = q₁ k)
    (hb₁ : ∀ k, b₁ (ix2 0 k) = r₁ k) (hWm : ∀ k j, Wm (ix2 k j) = Um k j) (hbm : ∀ k, bm (ix2 0 k) = rm k)
    (hwg : wg (ix2 0 0) = u) (hbg : bg (ix2 0 0) = c) (i : Fin 52) (k : Fin 512) :
    stored v w x W₀ a₀ d₀ b₀ W₁ a₁ d₁ b₁ Wm bm wg bg (ix2 i k)
      = block (fun i j => (count (withLoops s) (withLoops t) i j : EReal)) (fun j => ((invRoot (withLoops t) j : ℝ) : EReal))
          X U₀ p₀ q₀ r₀ U₁ p₁ q₁ r₁ Um rm u c i k := by
  rw [stored_apply hs ht]
  simp only [hx, hW₀, ha₀, hd₀, hb₀, hW₁, ha₁, hd₁, hb₁, hWm, hbm, hwg, hbg]

end Cert.KernelIdeal.Gat

end

end
-- ==== Proof.KernelArray.lean ====
/-
  The kernel's result array after the run: what its body stores, over the argument arrays.
-/
module

public import proofs.«01_k».proof.Proof.KernelBlock
public import proofs.«01_k».proof.Proof.Gen.KernelIdeal.Value
public import Idealize.ShloMosaic.Lib.Pipeline.ValueKit

@[expose] public section

set_option maxRecDepth 16384

noncomputable section

namespace Cert.KernelIdeal.Gat

open Idealize.ShloMosaic Idealize.ShloMosaic.TcCoe Idealize.SL.Sem
open Cert.KernelIdeal Cert.KernelIdeal.Gen Cert.Gat

variable (m : (ℓ : Loc nD τ sig) → Buf (Elt Ideal) ℓ)

/-- Every window's block is its whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![0, 0] :=
  (by decide +kernel : ∀ t : Fin grid0.N, _)

theorem zero_offset : (![0, 0] : Fin 2 → Nat) = fun _ => 0 := funext fun a => by fin_cases a <;> rfl

/-! A load of a whole buffer is the buffer. -/

theorem load2 (x : Vec Ideal S52x512 .f32) : View.ld x r0_2 = x := View.ld_unit_zero zero_offset _ x
theorem load3 (x : Vec Ideal S512x512 .f32) : View.ld x r0_3 = x := View.ld_unit_zero zero_offset _ x
theorem load4 (x : Vec Ideal S1x512 .f32) : View.ld x r0_4 = x := View.ld_unit_zero zero_offset _ x
theorem load5 (x : Vec Ideal S1x1 .f32) : View.ld x r0_5 = x := View.ld_unit_zero zero_offset _ x

/-- The body's result over its blocks is `stored` of them. -/
theorem out_eq (x0 : Vec Ideal S2x832 .i32) (x1 : Vec Ideal S52x512 .f32) (x2 : Vec Ideal S512x512 .f32) (x3 x4 x5 : Vec Ideal S1x512 .f32)
    (x6 : Vec Ideal S512x512 .f32) (x7 x8 x9 : Vec Ideal S1x512 .f32) (x10 : Vec Ideal S512x512 .f32) (x11 : Vec Ideal S1x512 .f32)
    (x12 x13 : Vec Ideal S1x1 .f32) :
    out0_14 x0 x1 x2 x3 x4 x5 x6 x7 x8 x9 x10 x11 x12 x13
      = stored (View.ld x0 r0_0) (View.ld x0 r0_1) x1 x2 x3 x4 x5 x6 x7 x8 x9 x10 x11 x12 x13 := by
  unfold out0_14 k0_pay20 k0_pay19 k0_pay18 k0_pay17 k0_pay16 k0_pay15 k0_pay14 k0_pay13
  rw [View.canon_unit_zero zero_offset]
  rw [load2 x1, load3 x2, load3 x6, load3 x10, load4 x3, load4 x4, load4 x5, load4 x7, load4 x8, load4 x9, load4 x11, load5 x12, load5 x13]
  rfl

theorem sources_row (x0 : Vec Ideal S2x832 .i32) (e : Fin 832) : View.ld x0 r0_0 (ix2 0 e) = x0 (ix2 0 e) := by
  pointwise

theorem destinations_row (x0 : Vec Ideal S2x832 .i32) (e : Fin 832) : View.ld x0 r0_1 (ix2 0 e) = x0 (ix2 1 e) := by
  pointwise

/-- The result array after the run is what the body left in its buffer. -/
theorem final (c : Dev nD) : (dats m 0 c).arrAt 14 cfg0.N
    = out0_14 (iblk m c 0 t0_0) (iblk m c 1 t0_0) (iblk m c 2 t0_0) (iblk m c 3 t0_0) (iblk m c 4 t0_0) (iblk m c 5 t0_0) (iblk m c 6 t0_0)
        (iblk m c 7 t0_0) (iblk m c 8 t0_0) (iblk m c 9 t0_0) (iblk m c 10 t0_0) (iblk m c 11 t0_0) (iblk m c 12 t0_0) (iblk m c 13 t0_0) := by
  refine (dats m 0 c).arrAt_eq_of_after_last 14 t0_0 (by decide +kernel) _ fun j => ?_
  blk_simp
  rw [after0_14]

theorem block0 (c : Dev nD) : iblk m c 0 t0_0 = m ((c : Thread nD τ).loc main_arg1) := by blk_ext! [iblk, V, idx t0_0]
theorem block1 (c : Dev nD) : iblk m c 1 t0_0 = m ((c : Thread nD τ).loc main_arg0) := by blk_ext! [iblk, V, idx t0_0]
theorem block2 (c : Dev nD) : iblk m c 2 t0_0 = m ((c : Thread nD τ).loc main_arg2) := by blk_ext! [iblk, V, idx t0_0]
theorem block3 (c : Dev nD) (k : Fin 512) : iblk m c 3 t0_0 (ix2 0 k) = m ((c : Thread nD τ).loc main_arg3) (ix1 k) := by blk_ext! [iblk, V, idx t0_0]
theorem block4 (c : Dev nD) (k : Fin 512) : iblk m c 4 t0_0 (ix2 0 k) = m ((c : Thread nD τ).loc main_arg4) (ix1 k) := by blk_ext! [iblk, V, idx t0_0]
theorem block5 (c : Dev nD) (k : Fin 512) : iblk m c 5 t0_0 (ix2 0 k) = m ((c : Thread nD τ).loc main_arg5) (ix1 k) := by blk_ext! [iblk, V, idx t0_0]
theorem block6 (c : Dev nD) : iblk m c 6 t0_0 = m ((c : Thread nD τ).loc main_arg6) := by blk_ext! [iblk, V, idx t0_0]
theorem block7 (c : Dev nD) (k : Fin 512) : iblk m c 7 t0_0 (ix2 0 k) = m ((c : Thread nD τ).loc main_arg7) (ix1 k) := by blk_ext! [iblk, V, idx t0_0]
theorem block8 (c : Dev nD) (k : Fin 512) : iblk m c 8 t0_0 (ix2 0 k) = m ((c : Thread nD τ).loc main_arg8) (ix1 k) := by blk_ext! [iblk, V, idx t0_0]
theorem block9 (c : Dev nD) (k : Fin 512) : iblk m c 9 t0_0 (ix2 0 k) = m ((c : Thread nD τ).loc main_arg9) (ix1 k) := by blk_ext! [iblk, V, idx t0_0]
theorem block10 (c : Dev nD) : iblk m c 10 t0_0 = m ((c : Thread nD τ).loc main_arg10) := by blk_ext! [iblk, V, idx t0_0]
theorem block11 (c : Dev nD) (k : Fin 512) : iblk m c 11 t0_0 (ix2 0 k) = m ((c : Thread nD τ).loc main_arg11) (ix1 k) := by blk_ext! [iblk, V, idx t0_0]
theorem block12 (c : Dev nD) : iblk m c 12 t0_0 = m ((c : Thread nD τ).loc main_arg12) := by blk_ext! [iblk, V, idx t0_0]
theorem block13 (c : Dev nD) : iblk m c 13 t0_0 (ix2 0 0) = m ((c : Thread nD τ).loc main_arg13) (ix1 0) := by blk_ext! [iblk, V, idx t0_0]

/-- THE KERNEL'S RESULT ARRAY: where the edge list names the nodes `s` and `t`, entry by entry the whole block of the
    argument arrays, over the counts of the edges with every node's loop added. -/
theorem array_apply (c : Dev nD) {s t : Fin 832 → Fin 52}
    (hs : ∀ e : Fin 832, (m ((c : Thread nD τ).loc main_arg1) : IVec S2x832 32) (ix2 0 e) = BitVec.ofNat 32 (s e))
    (ht : ∀ e : Fin 832, (m ((c : Thread nD τ).loc main_arg1) : IVec S2x832 32) (ix2 1 e) = BitVec.ofNat 32 (t e)) (i : Fin 52) (k : Fin 512) :
    ((dats m 0 c).arrAt 14 cfg0.N : FVec Ideal S52x512 .f32) (ix2 i k)
      = block (fun i j => (count (withLoops s) (withLoops t) i j : EReal)) (fun j => ((invRoot (withLoops t) j : ℝ) : EReal))
          (fun i j => (m ((c : Thread nD τ).loc main_arg0) : FVec Ideal S52x512 .f32) (ix2 i j))
          (fun j k => (m ((c : Thread nD τ).loc main_arg2) : FVec Ideal S512x512 .f32) (ix2 j k))
          (fun k => (m ((c : Thread nD τ).loc main_arg3) : FVec Ideal S512 .f32) (ix1 k))
          (fun k => (m ((c : Thread nD τ).loc main_arg4) : FVec Ideal S512 .f32) (ix1 k))
          (fun k => (m ((c : Thread nD τ).loc main_arg5) : FVec Ideal S512 .f32) (ix1 k))
          (fun j k => (m ((c : Thread nD τ).loc main_arg6) : FVec Ideal S512x512 .f32) (ix2 j k))
          (fun k => (m ((c : Thread nD τ).loc main_arg7) : FVec Ideal S512 .f32) (ix1 k))
          (fun k => (m ((c : Thread nD τ).loc main_arg8) : FVec Ideal S512 .f32) (ix1 k))
          (fun k => (m ((c : Thread nD τ).loc main_arg9) : FVec Ideal S512 .f32) (ix1 k))
          (fun k j => (m ((c : Thread nD τ).loc main_arg10) : FVec Ideal S512x512 .f32) (ix2 k j))
          (fun k => (m ((c : Thread nD τ).loc main_arg11) : FVec Ideal S512 .f32) (ix1 k))
          ((m ((c : Thread nD τ).loc main_arg12) : FVec Ideal S1x1 .f32) (ix2 0 0))
          ((m ((c : Thread nD τ).loc main_arg13) : FVec Ideal S1 .f32) (ix1 0)) i k := by
  rw [final, out_eq]
  exact stored_of_tables
    (fun e => (sources_row _ e).trans ((congrFun (block0 m c) _).trans (hs e)))
    (fun e => (destinations_row _ e).trans ((congrFun (block0 m c) _).trans (ht e)))
    (fun _ _ => congrFun (block1 m c) _) (fun _ _ => congrFun (block2 m c) _) (block3 m c) (block4 m c) (block5 m c)
    (fun _ _ => congrFun (block6 m c) _) (block7 m c) (block8 m c) (block9 m c)
    (fun _ _ => congrFun (block10 m c) _) (block11 m c) (congrFun (block12 m c) _) (block13 m c) i k

end Cert.KernelIdeal.Gat

end

end
-- ==== Proof.EdgeReads.lean ====
/-
  The reference's reads and writes along its edges, at one entry. Where the words of an index list name nodes, a gather
  reads the named row, and an adding scatter puts at a node the sum over the edges that end there.
-/
module

public import proofs.«01_k».proof.Proof.Gen.ReferenceIdeal.Run
public import Idealize.ShloMosaic.Lib.Pointwise

@[expose] public section

set_option maxRecDepth 16384

noncomputable section

namespace Cert.ReferenceIdeal.Gat

open Idealize.ShloMosaic Idealize.ShloMosaic.TcCoe Idealize.SL.Sem
open Cert.ReferenceIdeal Cert.ReferenceIdeal.Gen

/-- The words of `idx` name the nodes `σ`. -/
def Names (idx : IVec S884x1 32) (σ : Fin 884 → Fin 52) : Prop := ∀ e : Fin 884, idx (ix2 e 0) = BitVec.ofNat 32 (σ e)

/-- A node's word, read signed, is the node. -/
theorem toInt_node : ∀ i : Fin 52, (BitVec.ofNat 32 (i : ℕ)).toInt = (i : ℤ) := by decide

/-- A node's word read signed, cut off below at zero and above at the last node, is the node. -/
theorem clamp_node (i : Fin 52) : min (BitVec.ofNat 32 (i : ℕ)).toInt.toNat 51 = (i : ℕ) := by
  have := i.isLt
  rw [toInt_node]
  omega

/-! ## Gathers -/

/-- A gather of entries of a vector reads the named entry. -/
theorem gather_vec (x : FVec Ideal S52 .f32) {idx : IVec S884x1 32} {σ : Fin 884 → Fin 52} (h : Names idx σ) (e : Fin 884) :
    Host.gather gather_S52_S884x1_S884_n_0_n_n_0_1_1 x idx (ix1 e) = x (ix1 (σ e)) := by
  unfold Host.gather
  congr 1
  funext a
  have hs : gather_S52_S884x1_S884_n_0_n_n_0_1_1.siIdx (ix1 e) ⟨0, by decide⟩ = ix2 e 0 := by
    funext b
    match b with
    | ⟨0, _⟩ => rfl
    | ⟨1, _⟩ => rfl
  match a with
  | ⟨0, _⟩ =>
    apply Fin.ext
    show min (idx (gather_S52_S884x1_S884_n_0_n_n_0_1_1.siIdx (ix1 e) ⟨0, _⟩)).toInt.toNat 51 + 0 + 0 = (σ e : ℕ)
    rw [hs, h e, clamp_node, add_zero, add_zero]

/-- A gather of rows of a matrix of 512 columns reads the named row. -/
theorem gather_rows (x : FVec Ideal S52x512 .f32) {idx : IVec S884x1 32} {σ : Fin 884 → Fin 52} (h : Names idx σ) (e : Fin 884) (k : Fin 512) :
    Host.gather gather_S52x512_S884x1_S884x512_1_0_n_n_0_1_1512 x idx (ix2 e k) = x (ix2 (σ e) k) := by
  unfold Host.gather
  congr 1
  funext a
  have hs : gather_S52x512_S884x1_S884x512_1_0_n_n_0_1_1512.siIdx (ix2 e k) ⟨0, by decide⟩ = ix2 e 0 := by
    funext b
    match b with
    | ⟨0, _⟩ => rfl
    | ⟨1, _⟩ => rfl
  match a with
  | ⟨0, _⟩ =>
    apply Fin.ext
    show min (idx (gather_S52x512_S884x1_S884x512_1_0_n_n_0_1_1512.siIdx (ix2 e k) ⟨0, _⟩)).toInt.toNat 51 + 0 + 0 = (σ e : ℕ)
    rw [hs, h e, clamp_node, add_zero, add_zero]
  | ⟨1, _⟩ =>
    apply Fin.ext
    show 0 + 0 + (k : ℕ) = (k : ℕ)
    omega

/-- A gather of rows of a matrix of one column reads the named row. -/
theorem gather_column (x : FVec Ideal S52x1 .f32) {idx : IVec S884x1 32} {σ : Fin 884 → Fin 52} (h : Names idx σ) (e : Fin 884) (k : Fin 1) :
    Host.gather gather_S52x1_S884x1_S884x1_1_0_n_n_0_1_11 x idx (ix2 e k) = x (ix2 (σ e) k) := by
  unfold Host.gather
  congr 1
  funext a
  have hs : gather_S52x1_S884x1_S884x1_1_0_n_n_0_1_11.siIdx (ix2 e k) ⟨0, by decide⟩ = ix2 e 0 := by
    funext b
    match b with
    | ⟨0, _⟩ => rfl
    | ⟨1, _⟩ => rfl
  match a with
  | ⟨0, _⟩ =>
    apply Fin.ext
    show min (idx (gather_S52x1_S884x1_S884x1_1_0_n_n_0_1_11.siIdx (ix2 e k) ⟨0, _⟩)).toInt.toNat 51 + 0 + 0 = (σ e : ℕ)
    rw [hs, h e, clamp_node, add_zero, add_zero]
  | ⟨1, _⟩ =>
    apply Fin.ext
    show 0 + 0 + (k : ℕ) = (k : ℕ)
    omega

/-! ## Adding scatters -/

/-- The update of edge `e` lands at the named entry. -/
theorem result_vec {idx : IVec S884x1 32} {σ : Fin 884 → Fin 52} (h : Names idx σ) (e : Fin 884) :
    scatter_S52_S884x1_S884_n_0_0_1.resultIdx? (ix1 e) idx = some (ix1 (σ e)) := by
  have hs : scatter_S52_S884x1_S884_n_0_0_1.siIdx (ix1 e) ⟨0, by decide⟩ = ix2 e 0 := by
    funext b
    match b with
    | ⟨0, _⟩ => rfl
    | ⟨1, _⟩ => rfl
  have h0 : scatter_S52_S884x1_S884_n_0_0_1.start (ix1 e) idx 0 + scatter_S52_S884x1_S884_n_0_0_1.window (ix1 e) 0 = (σ e : ℤ) := by
    show (idx (scatter_S52_S884x1_S884_n_0_0_1.siIdx (ix1 e) ⟨0, _⟩)).toInt + 0 = (σ e : ℤ)
    rw [hs, h e, toInt_node, add_zero]
  have hlt : ((σ e : ℕ) : ℤ) < 52 := by have := (σ e).isLt; omega
  unfold ScatterDims.resultIdx?
  rw [dif_pos (fun a => by
    match a with
    | ⟨0, _⟩ => exact ⟨by erw [h0]; omega, by erw [h0]; exact hlt⟩)]
  congr 1
  funext a
  match a with
  | ⟨0, _⟩ =>
    apply Fin.ext
    show (scatter_S52_S884x1_S884_n_0_0_1.start (ix1 e) idx 0 + scatter_S52_S884x1_S884_n_0_0_1.window (ix1 e) 0).toNat = (σ e : ℕ)
    rw [h0]
    omega

/-- An adding scatter of entries into a vector. -/
theorem scatter_vec (x : FVec Ideal S52 .f32) {idx : IVec S884x1 32} {σ : Fin 884 → Fin 52} (h : Names idx σ) (u : FVec Ideal S884 .f32) (i : Fin 52) :
    Host.scatterAdd scatter_S52_S884x1_S884_n_0_0_1 x idx u (ix1 i)
      = x (ix1 i) + ∑ e ∈ Finset.univ.filter (fun e => σ e = i), u (ix1 e) := by
  show x (ix1 i) + ∑ j ∈ Finset.univ.filter (fun j => scatter_S52_S884x1_S884_n_0_0_1.resultIdx? j idx = some (ix1 i)), u j = _
  congr 1
  rw [Finset.sum_filter, Finset.sum_filter, sum_idx1]
  refine Finset.sum_congr rfl fun e _ => ?_
  rw [result_vec h e]
  exact if_congr ⟨fun hh => congrFun (Option.some.inj hh) 0, fun hh => by rw [hh]⟩ rfl rfl

/-- Entry `k` of the update of edge `e` lands in the named row, at `k`. -/
theorem result_rows {idx : IVec S884x1 32} {σ : Fin 884 → Fin 52} (h : Names idx σ) (e : Fin 884) (k : Fin 512) :
    scatter_S52x512_S884x1_S884x512_1_0_0_1.resultIdx? (ix2 e k) idx = some (ix2 (σ e) k) := by
  have hs : scatter_S52x512_S884x1_S884x512_1_0_0_1.siIdx (ix2 e k) ⟨0, by decide⟩ = ix2 e 0 := by
    funext b
    match b with
    | ⟨0, _⟩ => rfl
    | ⟨1, _⟩ => rfl
  have h0 : scatter_S52x512_S884x1_S884x512_1_0_0_1.start (ix2 e k) idx 0 + scatter_S52x512_S884x1_S884x512_1_0_0_1.window (ix2 e k) 0 = (σ e : ℤ) := by
    show (idx (scatter_S52x512_S884x1_S884x512_1_0_0_1.siIdx (ix2 e k) ⟨0, _⟩)).toInt + 0 = (σ e : ℤ)
    rw [hs, h e, toInt_node, add_zero]
  have h1 : scatter_S52x512_S884x1_S884x512_1_0_0_1.start (ix2 e k) idx 1 + scatter_S52x512_S884x1_S884x512_1_0_0_1.window (ix2 e k) 1 = (k : ℤ) := by
    show (0 : ℤ) + ((k : ℕ) : ℤ) = (k : ℤ)
    omega
  have hlt : ((σ e : ℕ) : ℤ) < 52 := by have := (σ e).isLt; omega
  have klt : ((k : ℕ) : ℤ) < 512 := by have := k.isLt; omega
  unfold ScatterDims.resultIdx?
  rw [dif_pos (fun a => by
    match a with
    | ⟨0, _⟩ => exact ⟨by erw [h0]; omega, by erw [h0]; exact hlt⟩
    | ⟨1, _⟩ => exact ⟨by erw [h1]; omega, by erw [h1]; exact klt⟩)]
  congr 1
  funext a
  match a with
  | ⟨0, _⟩ =>
    apply Fin.ext
    show (scatter_S52x512_S884x1_S884x512_1_0_0_1.start (ix2 e k) idx 0 + scatter_S52x512_S884x1_S884x512_1_0_0_1.window (ix2 e k) 0).toNat = (σ e : ℕ)
    rw [h0]
    omega
  | ⟨1, _⟩ =>
    apply Fin.ext
    show (scatter_S52x512_S884x1_S884x512_1_0_0_1.start (ix2 e k) idx 1 + scatter_S52x512_S884x1_S884x512_1_0_0_1.window (ix2 e k) 1).toNat = (k : ℕ)
    rw [h1]
    omega

/-- An adding scatter of rows into a matrix of 512 columns. -/
theorem scatter_rows (x : FVec Ideal S52x512 .f32) {idx : IVec S884x1 32} {σ : Fin 884 → Fin 52} (h : Names idx σ) (u : FVec Ideal S884x512 .f32) (i : Fin 52) (k : Fin 512) :
    Host.scatterAdd scatter_S52x512_S884x1_S884x512_1_0_0_1 x idx u (ix2 i k)
      = x (ix2 i k) + ∑ e ∈ Finset.univ.filter (fun e => σ e = i), u (ix2 e k) := by
  show x (ix2 i k) + ∑ j ∈ Finset.univ.filter (fun j => scatter_S52x512_S884x1_S884x512_1_0_0_1.resultIdx? j idx = some (ix2 i k)), u j = _
  congr 1
  rw [Finset.sum_filter, Finset.sum_filter, sum_idx2]
  refine Finset.sum_congr rfl fun e _ => ?_
  rw [Finset.sum_congr rfl (fun k' _ => by rw [result_rows h e k'])]
  by_cases he : σ e = i
  · rw [if_pos he, Finset.sum_eq_single k]
    · rw [if_pos (by rw [he])]
    · intro k' _ hk
      exact if_neg fun hh => hk (congrFun (Option.some.inj hh) 1)
    · exact fun hk => absurd (Finset.mem_univ k) hk
  · rw [if_neg he]
    exact Finset.sum_eq_zero fun k' _ => if_neg fun hh => he (congrFun (Option.some.inj hh) 0)

/-- Entry `k` of the update of edge `e` lands in the named row, at `k`. -/
theorem result_column {idx : IVec S884x1 32} {σ : Fin 884 → Fin 52} (h : Names idx σ) (e : Fin 884) (k : Fin 1) :
    scatter_S52x1_S884x1_S884x1_1_0_0_1.resultIdx? (ix2 e k) idx = some (ix2 (σ e) k) := by
  have hs : scatter_S52x1_S884x1_S884x1_1_0_0_1.siIdx (ix2 e k) ⟨0, by decide⟩ = ix2 e 0 := by
    funext b
    match b with
    | ⟨0, _⟩ => rfl
    | ⟨1, _⟩ => rfl
  have h0 : scatter_S52x1_S884x1_S884x1_1_0_0_1.start (ix2 e k) idx 0 + scatter_S52x1_S884x1_S884x1_1_0_0_1.window (ix2 e k) 0 = (σ e : ℤ) := by
    show (idx (scatter_S52x1_S884x1_S884x1_1_0_0_1.siIdx (ix2 e k) ⟨0, _⟩)).toInt + 0 = (σ e : ℤ)
    rw [hs, h e, toInt_node, add_zero]
  have h1 : scatter_S52x1_S884x1_S884x1_1_0_0_1.start (ix2 e k) idx 1 + scatter_S52x1_S884x1_S884x1_1_0_0_1.window (ix2 e k) 1 = (k : ℤ) := by
    show (0 : ℤ) + ((k : ℕ) : ℤ) = (k : ℤ)
    omega
  have hlt : ((σ e : ℕ) : ℤ) < 52 := by have := (σ e).isLt; omega
  have klt : ((k : ℕ) : ℤ) < 1 := by have := k.isLt; omega
  unfold ScatterDims.resultIdx?
  rw [dif_pos (fun a => by
    match a with
    | ⟨0, _⟩ => exact ⟨by erw [h0]; omega, by erw [h0]; exact hlt⟩
    | ⟨1, _⟩ => exact ⟨by erw [h1]; omega, by erw [h1]; exact klt⟩)]
  congr 1
  funext a
  match a with
  | ⟨0, _⟩ =>
    apply Fin.ext
    show (scatter_S52x1_S884x1_S884x1_1_0_0_1.start (ix2 e k) idx 0 + scatter_S52x1_S884x1_S884x1_1_0_0_1.window (ix2 e k) 0).toNat = (σ e : ℕ)
    rw [h0]
    omega
  | ⟨1, _⟩ =>
    apply Fin.ext
    show (scatter_S52x1_S884x1_S884x1_1_0_0_1.start (ix2 e k) idx 1 + scatter_S52x1_S884x1_S884x1_1_0_0_1.window (ix2 e k) 1).toNat = (k : ℕ)
    rw [h1]
    omega

/-- An adding scatter of rows into a matrix of one column. -/
theorem scatter_column (x : FVec Ideal S52x1 .f32) {idx : IVec S884x1 32} {σ : Fin 884 → Fin 52} (h : Names idx σ) (u : FVec Ideal S884x1 .f32) (i : Fin 52) (k : Fin 1) :
    Host.scatterAdd scatter_S52x1_S884x1_S884x1_1_0_0_1 x idx u (ix2 i k)
      = x (ix2 i k) + ∑ e ∈ Finset.univ.filter (fun e => σ e = i), u (ix2 e k) := by
  show x (ix2 i k) + ∑ j ∈ Finset.univ.filter (fun j => scatter_S52x1_S884x1_S884x1_1_0_0_1.resultIdx? j idx = some (ix2 i k)), u j = _
  congr 1
  rw [Finset.sum_filter, Finset.sum_filter, sum_idx2]
  refine Finset.sum_congr rfl fun e _ => ?_
  rw [Finset.sum_congr rfl (fun k' _ => by rw [result_column h e k'])]
  by_cases he : σ e = i
  · rw [if_pos he, Finset.sum_eq_single k]
    · rw [if_pos (by rw [he])]
    · intro k' _ hk
      exact if_neg fun hh => hk (congrFun (Option.some.inj hh) 1)
    · exact fun hk => absurd (Finset.mem_univ k) hk
  · rw [if_neg he]
    exact Finset.sum_eq_zero fun k' _ => if_neg fun hh => he (congrFun (Option.some.inj hh) 0)

end Cert.ReferenceIdeal.Gat

end
-- ==== Proof.ReferenceLayer.lean ====
/-
  The reference's attention layer read at one entry: a sum over the edges into a node (`Gat.edgeSum`), plus the bias.
-/
module

public import proofs.«01_k».proof.Proof.EdgeReads
public import proofs.«01_k».proof.Proof.Attention

@[expose] public section

set_option maxRecDepth 16384

noncomputable section

namespace Cert.ReferenceIdeal.Gat

open Idealize.ShloMosaic Idealize.ShloMosaic.TcCoe Idealize.SL.Sem
open Cert.ReferenceIdeal Cert.ReferenceIdeal.Gen Cert.Gat

/-! ## The index lists -/

/-- An index list as jax gathers with it: a negative word counts from the end. -/
def wrap (v : IVec S884 32) : IVec S884x1 32 :=
  broadcastInDim S884x1 ![0] bcast_S884_S884x1_0 (select (cmpi .slt v (broadcastInDim S884 ![] bcast_S_S884 (constantI S_ 32 0#32))) (addi v (broadcastInDim S884 ![] bcast_S_S884 (constantI S_ 32 52#32))) v)

/-- An index list as jax scatters with it. -/
def column (v : IVec S884 32) : IVec S884x1 32 := broadcastInDim S884x1 ![0] bcast_S884_S884x1_0 v

/-- The list's words are the nodes `σ`. -/
def Lists (v : IVec S884 32) (σ : Fin 884 → Fin 52) : Prop := ∀ e : Fin 884, v (ix1 e) = BitVec.ofNat 32 (σ e)

theorem wrap_node : ∀ i : Fin 52, Scalar.select (IntOp.cmpi .slt (BitVec.ofNat 32 (i : ℕ)) 0#32) (IntOp.addi (BitVec.ofNat 32 (i : ℕ)) 52#32) (BitVec.ofNat 32 (i : ℕ)) = BitVec.ofNat 32 (i : ℕ) := by
  decide

variable {v : IVec S884 32} {σ : Fin 884 → Fin 52}

/-- A list of nodes has nothing to wrap. -/
theorem wrap_names (h : Lists v σ) : Names (wrap v) σ := by
  intro e
  pointwise [wrap, h e]
  exact wrap_node (σ e)

theorem column_names (h : Lists v σ) : Names (column v) σ := by
  intro e
  pointwise [column]
  exact h e

/-! ## The constants -/

/-- The rectifier's slope is a number between zero and one. -/
theorem slope : ∃ c : ℝ, 0 ≤ c ∧ c ≤ 1 ∧ Ideal.ofBits .f32 0x3E4CCCCD#32 = (c : EReal) := by
  refine ⟨_, ?_, ?_, by simp [Ideal.ofBits, Ideal.ieee]; rfl⟩ <;> norm_num

/-- The softmax's guard is a positive number. -/
theorem guard : ∃ ε : ℝ, 0 < ε ∧ Ideal.ofBits .f32 0x24E69595#32 = (ε : EReal) := by
  refine ⟨_, ?_, by simp [Ideal.ofBits, Ideal.ieee]; rfl⟩ ; norm_num

/-! ## The layer, step by step -/

/-- Every edge's logit: its source's half and its destination's. -/
def logits (src dst : IVec S884 32) (h : FVec Ideal S52x512 .f32) (av dv : FVec Ideal S512 .f32) : FVec Ideal S884 .f32 :=
  addf (Host.gather gather_S52_S884x1_S884_n_0_n_n_0_1_1 (Host.reduceAdd (mulf h (broadcastInDim S52x512 ![0, 1] bcast_S1x512_S52x512_0_1 (broadcastInDim S1x512 ![1] bcast_S512_S1x512_1 av))) (constant S_ .f32 0x00000000#32) reducesTo_S52x512_S52_d1 h_S_) (wrap src))
    (Host.gather gather_S52_S884x1_S884_n_0_n_n_0_1_1 (Host.reduceAdd (mulf h (broadcastInDim S52x512 ![0, 1] bcast_S1x512_S52x512_0_1 (broadcastInDim S1x512 ![1] bcast_S512_S1x512_1 dv))) (constant S_ .f32 0x00000000#32) reducesTo_S52x512_S52_d1 h_S_) (wrap dst))

/-- The leaky rectifier of every logit. -/
def leaky (a : FVec Ideal S884 .f32) : FVec Ideal S884 .f32 :=
  select (cmpf .oge a (broadcastInDim S884 ![] bcast_S_S884 (constant S_ .f32 0x00000000#32))) a (mulf (broadcastInDim S884 ![] bcast_S_S884 (id (constant S_ .f32 0x3E4CCCCD#32))) a)

/-- The largest logit of every node's edges. -/
def largest (dst : IVec S884 32) (a : FVec Ideal S884 .f32) : FVec Ideal S52 .f32 :=
  Host.reduce FloatOps.maximumf (select (cmpi .eq (broadcastInDim S52x884 ![0, 1] bcast_S1x884_S52x884_0_1 (broadcastInDim S1x884 ![1] bcast_S884_S1x884_1 dst)) (broadcastInDim S52x884 ![0, 1] bcast_S52x1_S52x884_0_1 (broadcastInDim S52x1 ![0] bcast_S52_S52x1_0 (iotaInDim S52 32 0)))) (broadcastInDim S52x884 ![0, 1] bcast_S1x884_S52x884_0_1 (broadcastInDim S1x884 ![1] bcast_S884_S1x884_1 a)) (broadcastInDim S52x884 ![] bcast_S_S52x884 (id (constant S_ .f32 0xFF800000#32)))) (constant S_ .f32 0xFF800000#32) reducesTo_S52x884_S52_d1 h_S_

/-- Every node's shift: its largest logit where that is finite, else zero. -/
def shift (x : FVec Ideal S52 .f32) : FVec Ideal S52 .f32 :=
  select (andi (cmpf .ogt x (broadcastInDim S52 ![] bcast_S_S52 (constant S_ .f32 0xFF800000#32))) (cmpf .olt x (broadcastInDim S52 ![] bcast_S_S52 (constant S_ .f32 0x7F800000#32)))) x (broadcastInDim S52 ![] bcast_S_S52 (id (constant S_ .f32 0x00000000#32)))

/-- Every edge's weight before it is divided. -/
def weights (dst : IVec S884 32) (a : FVec Ideal S884 .f32) (g : FVec Ideal S52 .f32) : FVec Ideal S884 .f32 :=
  Host.exp (subf a (Host.gather gather_S52_S884x1_S884_n_0_n_n_0_1_1 g (wrap dst)))

/-- Every node's weighted sum over its edges, plus the bias. -/
def aggregate (src dst : IVec S884 32) (h : FVec Ideal S52x512 .f32) (b : FVec Ideal S512 .f32) (w : FVec Ideal S884 .f32) (g : FVec Ideal S52 .f32) : FVec Ideal S52x512 .f32 :=
  addf (Host.scatterAdd scatter_S52x512_S884x1_S884x512_1_0_0_1 (broadcastInDim S52x512 ![] bcast_S_S52x512 (constant S_ .f32 0x00000000#32)) (column dst)
      (mulf (broadcastInDim S884x512 ![0, 1] bcast_S884x1_S884x512_0_1 (broadcastInDim S884x1 ![0] bcast_S884_S884x1_0
          (Host.divf w (addf (Host.gather gather_S52_S884x1_S884_n_0_n_n_0_1_1 (Host.scatterAdd scatter_S52_S884x1_S884_n_0_0_1 (broadcastInDim S52 ![] bcast_S_S52 (constant S_ .f32 0x00000000#32)) (column dst) w) (wrap dst))
            (mulf (broadcastInDim S884 ![] bcast_S_S884 (constant S_ .f32 0x24E69595#32)) (Host.gather gather_S52_S884x1_S884_n_0_n_n_0_1_1 (Host.exp (Host.negf g)) (wrap dst)))))))
        (Host.gather gather_S52x512_S884x1_S884x512_1_0_n_n_0_1_1512 h (wrap src))))
    (broadcastInDim S52x512 ![0, 1] bcast_S1x512_S52x512_0_1 (broadcastInDim S1x512 ![1] bcast_S512_S1x512_1 b))

/-- The layer of the node features `h`. -/
def layer (src dst : IVec S884 32) (h : FVec Ideal S52x512 .f32) (av dv b : FVec Ideal S512 .f32) : FVec Ideal S52x512 .f32 :=
  aggregate src dst h b (weights dst (leaky (logits src dst h av dv)) (shift (largest dst (leaky (logits src dst h av dv))))) (shift (largest dst (leaky (logits src dst h av dv))))

/-- The product of a node's features with a vector. -/
def dot (h : FVec Ideal S52x512 .f32) (a : FVec Ideal S512 .f32) (i : Fin 52) : EReal := ∑ k : Fin 512, h (ix2 i k) * a (ix1 k)

/-- The reference's leaky rectifier. -/
def rectifier (z : EReal) : EReal := if 0 ≤ z then z else Ideal.ofBits .f32 0x3E4CCCCD#32 * z

variable {src dst : IVec S884 32} {s t : Fin 884 → Fin 52}

theorem logits_apply (hs : Lists src s) (ht : Lists dst t) (h : FVec Ideal S52x512 .f32) (av dv : FVec Ideal S512 .f32) (e : Fin 884) :
    logits src dst h av dv (ix1 e) = dot h av (s e) + dot h dv (t e) := by
  unfold logits
  rw [ValueIdx.addf_apply, gather_vec _ (wrap_names hs), gather_vec _ (wrap_names ht)]
  pointwise [dot]

theorem leaky_apply (a : FVec Ideal S884 .f32) (e : Fin 884) : leaky a (ix1 e) = rectifier (a (ix1 e)) := by
  pointwise [leaky, rectifier, id]

/-- Every node's shift is a real number. -/
theorem shift_coe (x : FVec Ideal S52 .f32) (i : Fin 52) : ∃ r : ℝ, shift x (ix1 i) = (r : EReal) := by
  have lo : Ideal.ofBits .f32 0xFF800000#32 = ⊥ := by simp [Ideal.ofBits, Ideal.ieee]
  have hi : Ideal.ofBits .f32 0x7F800000#32 = ⊤ := by simp [Ideal.ofBits, Ideal.ieee]
  pointwise [shift, id]
  simp only [lo, hi]
  generalize x (ix1 i) = y
  induction y using EReal.rec with
  | bot => exact ⟨0, by simp [Scalar.select, IntOp.andi]⟩
  | top => exact ⟨0, by simp [Scalar.select, IntOp.andi]⟩
  | coe r => exact ⟨r, by simp [Scalar.select, IntOp.andi, EReal.bot_lt_coe, EReal.coe_lt_top]⟩

theorem weights_apply (ht : Lists dst t) (a : FVec Ideal S884 .f32) (g : FVec Ideal S52 .f32) (e : Fin 884) :
    weights dst a g (ix1 e) = Ideal.exp (a (ix1 e) - g (ix1 (t e))) := by
  show Ideal.exp (a (ix1 e) - Host.gather gather_S52_S884x1_S884_n_0_n_n_0_1_1 g (wrap dst) (ix1 e)) = _
  rw [gather_vec _ (wrap_names ht)]

theorem aggregate_apply (hs : Lists src s) (ht : Lists dst t) (h : FVec Ideal S52x512 .f32) (b : FVec Ideal S512 .f32) (w : FVec Ideal S884 .f32) (g : FVec Ideal S52 .f32) (i : Fin 52) (k : Fin 512) :
    aggregate src dst h b w g (ix2 i k)
      = (∑ e ∈ Finset.univ.filter (fun e => t e = i),
          Ideal.div (w (ix1 e)) ((∑ e' ∈ Finset.univ.filter (fun e' => t e' = t e), w (ix1 e')) + Ideal.ofBits .f32 0x24E69595#32 * Ideal.exp (-g (ix1 (t e)))) * h (ix2 (s e) k))
        + b (ix1 k) := by
  unfold aggregate
  rw [ValueIdx.addf_apply, scatter_rows _ (column_names ht)]
  pointwise [gather_vec _ (wrap_names ht), gather_rows _ (wrap_names hs), scatter_vec _ (column_names ht)]

/-- The layer at one node and feature. -/
theorem layer_apply (hs : Lists src s) (ht : Lists dst t) (h : FVec Ideal S52x512 .f32) (av dv b : FVec Ideal S512 .f32) (i : Fin 52) (k : Fin 512) :
    ∃ g : Fin 52 → EReal, (∀ i, ∃ r : ℝ, g i = r) ∧ layer src dst h av dv b (ix2 i k)
      = edgeSum rectifier s t (Ideal.ofBits .f32 0x24E69595#32) g (dot h dv) (dot h av) (fun j => h (ix2 j k)) i + b (ix1 k) := by
  refine ⟨fun i => shift (largest dst (leaky (logits src dst h av dv))) (ix1 i), fun i => shift_coe _ i, ?_⟩
  unfold layer
  rw [aggregate_apply hs ht]
  simp only [weights_apply ht, leaky_apply, logits_apply hs ht, edgeSum]

end Cert.ReferenceIdeal.Gat

end
-- ==== Proof.ReferenceGates.lean ====
/-
  The reference's two gates, read at one entry.
-/
module

public import proofs.«01_k».proof.Proof.ReferenceLayer
public import proofs.«01_k».proof.Proof.Gates

@[expose] public section

set_option maxRecDepth 16384

noncomputable section

namespace Cert.ReferenceIdeal.Gat

open Idealize.ShloMosaic Idealize.ShloMosaic.TcCoe Idealize.SL.Sem
open Cert.ReferenceIdeal Cert.ReferenceIdeal.Gen Cert.Gat

/-! ## The channels' gate -/

/-- The features before the gates: the second layer and the residual, rectified. -/
def features (y l : FVec Ideal S52x512 .f32) : FVec Ideal S52x512 .f32 :=
  maximumf (addf l y) (broadcastInDim S52x512 ![] bcast_S_S52x512 (constant S_ .f32 0x00000000#32))

theorem features_apply (y l : FVec Ideal S52x512 .f32) (i : Fin 52) (k : Fin 512) :
    features y l (ix2 i k) = max (l (ix2 i k) + y (ix2 i k)) 0 := by
  pointwise [features]

/-- A vector of the channels through the gate's layer. -/
def perceptronV (u : FVec Ideal S1x512 .f32) (W : FVec Ideal S512x512 .f32) (b : FVec Ideal S512 .f32) : FVec Ideal S1x512 .f32 :=
  maximumf (addf (Host.dotGeneral dot_S1x512_S512x512_S1x512_1_0_0_1_n_n none u (transpose S512x512 [1, 0] W transposes_S512x512_S512x512_1_0)) (broadcastInDim S1x512 ![1] bcast_S512_S1x512_1 b)) (broadcastInDim S1x512 ![] bcast_S_S1x512 (constant S_ .f32 0x00000000#32))

theorem perceptronV_apply (u : FVec Ideal S1x512 .f32) (W : FVec Ideal S512x512 .f32) (b : FVec Ideal S512 .f32) (k : Fin 512) :
    perceptronV u W b (ix2 0 k) = perceptron (fun k j => W (ix2 k j)) (fun k => b (ix1 k)) (fun j => u (ix2 0 j)) k := by
  pointwise [perceptronV, perceptron]

/-- The channels' means over the nodes. -/
def means (y : FVec Ideal S52x512 .f32) : FVec Ideal S1x512 .f32 :=
  Host.divf (Host.reduceAdd (shapeCast S1x52x512 y shapeCasts_S52x512_S1x52x512) (constant S_ .f32 0x00000000#32) reducesTo_S1x52x512_S1x512_d1 h_S_) (broadcastInDim S1x512 ![] bcast_S_S1x512 (constant S_ .f32 0x42500000#32))

theorem means_apply (y : FVec Ideal S52x512 .f32) (k : Fin 512) :
    means y (ix2 0 k) = Ideal.div (∑ i : Fin 52, y (ix2 i k)) (Ideal.ofBits .f32 0x42500000#32) := by
  pointwise [means]

/-- The channels' maxima over the nodes. -/
def maxima (y : FVec Ideal S52x512 .f32) : FVec Ideal S1x512 .f32 :=
  Host.reduce FloatOps.maximumf (shapeCast S1x52x512 y shapeCasts_S52x512_S1x52x512) (constant S_ .f32 0xFF800000#32) reducesTo_S1x52x512_S1x512_d1 h_S_

theorem maxima_apply (y : FVec Ideal S52x512 .f32) (k : Fin 512) :
    maxima y (ix2 0 k) = largestOf fun i : Fin 52 => y (ix2 i k) := by
  pointwise [maxima, largestOf]

/-- The features behind the channels' gate. -/
def channels (y : FVec Ideal S52x512 .f32) (W : FVec Ideal S512x512 .f32) (b : FVec Ideal S512 .f32) : FVec Ideal S52x512 .f32 :=
  mulf y (broadcastInDim S52x512 ![0, 1] bcast_S1x512_S52x512_0_1 (Host.divf (broadcastInDim S1x512 ![] bcast_S_S1x512 (constant S_ .f32 0x3F800000#32)) (addf (broadcastInDim S1x512 ![] bcast_S_S1x512 (constant S_ .f32 0x3F800000#32)) (Host.exp (Host.negf (addf (perceptronV (means y) W b) (perceptronV (maxima y) W b)))))))

theorem channels_apply (y : FVec Ideal S52x512 .f32) (W : FVec Ideal S512x512 .f32) (b : FVec Ideal S512 .f32) (i : Fin 52) (k : Fin 512) :
    channels y W b (ix2 i k) = channelGated (fun k j => W (ix2 k j)) (fun k => b (ix1 k)) (fun i k => y (ix2 i k)) i k := by
  pointwise [channels]
  simp only [perceptronV_apply, means_apply, maxima_apply, channelGated, channelGate]
  rfl

/-! ## The nodes' gate -/

variable {src dst : IVec S884 32} {s t : Fin 884 → Fin 52}

/-- The nodes' degrees: ones summed over the edges. -/
def degrees (dst : IVec S884 32) : FVec Ideal S52 .f32 :=
  Host.scatterAdd scatter_S52_S884x1_S884_n_0_0_1 (broadcastInDim S52 ![] bcast_S_S52 (constant S_ .f32 0x00000000#32)) (column dst) (broadcastInDim S884 ![] bcast_S_S884 (constant S_ .f32 0x3F800000#32))

theorem degrees_apply (ht : Lists dst t) (i : Fin 52) : degrees dst (ix1 i) = (degree t i : EReal) := by
  unfold degrees
  rw [scatter_vec _ (column_names ht), ← sum_one]
  pointwise

/-- The exponent of the degree is minus one half. -/
theorem half : Ideal.ofBits .f32 0xBF000000#32 = ((-(1 / 2) : ℝ) : EReal) := by
  simp [Ideal.ofBits, Ideal.ieee]
  rw [← EReal.coe_mul]
  norm_num

/-- The nodes' factors. -/
def factors (n : FVec Ideal S52 .f32) : FVec Ideal S52 .f32 :=
  select (cmpf .ogt n (broadcastInDim S52 ![] bcast_S_S52 (constant S_ .f32 0x00000000#32))) (Host.powf n (broadcastInDim S52 ![] bcast_S_S52 (constant S_ .f32 0xBF000000#32))) (broadcastInDim S52 ![] bcast_S_S52 (id (constant S_ .f32 0x00000000#32)))

theorem factors_apply (ht : Lists dst t) (i : Fin 52) : factors (degrees dst) (ix1 i) = ((invRoot t i : ℝ) : EReal) := by
  rw [← pow_degree, ← half]
  pointwise [factors, id]
  simp only [degrees_apply ht]

/-- The nodes' largest features times the convolution's weight. -/
def weighed (z : FVec Ideal S52x512 .f32) (w : FVec Ideal S1x1 .f32) : FVec Ideal S52x1 .f32 :=
  Host.dotGeneral dot_S52x1_S1x1_S52x1_1_0_0_1_n_n none (Host.reduce FloatOps.maximumf (shapeCast S52x1x512 z shapeCasts_S52x512_S52x1x512) (constant S_ .f32 0xFF800000#32) reducesTo_S52x1x512_S52x1_d2 h_S_) w

theorem weighed_apply (z : FVec Ideal S52x512 .f32) (w : FVec Ideal S1x1 .f32) (i : Fin 52) :
    weighed z w (ix2 i 0) = (largestOf fun k : Fin 512 => z (ix2 i k)) * w (ix2 0 0) := by
  pointwise [weighed, largestOf]
  simp only [Finset.univ_unique, Finset.sum_singleton]
  rfl

/-- The graph convolution. -/
def convolution (src dst : IVec S884 32) (d : FVec Ideal S52 .f32) (x : FVec Ideal S52x1 .f32) (c : FVec Ideal S1 .f32) : FVec Ideal S52x1 .f32 :=
  addf (Host.scatterAdd scatter_S52x1_S884x1_S884x1_1_0_0_1 (broadcastInDim S52x1 ![] bcast_S_S52x1 (constant S_ .f32 0x00000000#32)) (column dst)
    (mulf (broadcastInDim S884x1 ![0] bcast_S884_S884x1_0 (mulf (Host.gather gather_S52_S884x1_S884_n_0_n_n_0_1_1 d (wrap src)) (Host.gather gather_S52_S884x1_S884_n_0_n_n_0_1_1 d (wrap dst))))
      (Host.gather gather_S52x1_S884x1_S884x1_1_0_n_n_0_1_11 x (wrap src))))
    (broadcastInDim S52x1 ![0, 1] bcast_S1x1_S52x1_0_1 (broadcastInDim S1x1 ![1] bcast_S1_S1x1_1 c))

theorem convolution_apply (hs : Lists src s) (ht : Lists dst t) (d : FVec Ideal S52 .f32) (x : FVec Ideal S52x1 .f32) (c : FVec Ideal S1 .f32) (i : Fin 52) :
    convolution src dst d x c (ix2 i 0)
      = (∑ e ∈ Finset.univ.filter (fun e => t e = i), d (ix1 (s e)) * d (ix1 (t e)) * x (ix2 (s e) 0)) + c (ix1 0) := by
  unfold convolution
  rw [ValueIdx.addf_apply, scatter_column _ (column_names ht)]
  pointwise [gather_vec _ (wrap_names ht), gather_vec _ (wrap_names hs), gather_column _ (wrap_names hs)]

/-- The reference's result: the features behind both gates. -/
def nodes (src dst : IVec S884 32) (z : FVec Ideal S52x512 .f32) (w : FVec Ideal S1x1 .f32) (c : FVec Ideal S1 .f32) : FVec Ideal S52x512 .f32 :=
  mulf z (broadcastInDim S52x512 ![0, 1] bcast_S52x1_S52x512_0_1 (Host.divf (broadcastInDim S52x1 ![] bcast_S_S52x1 (constant S_ .f32 0x3F800000#32)) (addf (broadcastInDim S52x1 ![] bcast_S_S52x1 (constant S_ .f32 0x3F800000#32))
    (Host.exp (Host.negf (convolution src dst (factors (degrees dst)) (weighed z w) c))))))

theorem nodes_apply (hs : Lists src s) (ht : Lists dst t) (z : FVec Ideal S52x512 .f32) (w : FVec Ideal S1x1 .f32) (c : FVec Ideal S1 .f32) (i : Fin 52) (k : Fin 512) :
    nodes src dst z w c (ix2 i k)
      = z (ix2 i k) * nodeGate (fun i j => (count s t i j : EReal)) (fun j => ((invRoot t j : ℝ) : EReal)) (w (ix2 0 0)) (c (ix1 0)) (fun j k => z (ix2 j k)) i := by
  have hc : convolution src dst (factors (degrees dst)) (weighed z w) c (ix2 i 0)
      = ((invRoot t i : ℝ) : EReal) * (∑ j, (count s t i j : EReal) * (((invRoot t j : ℝ) : EReal) * ((largestOf fun k : Fin 512 => z (ix2 j k)) * w (ix2 0 0)))) + c (ix1 0) := by
    rw [convolution_apply hs ht]
    simp only [factors_apply ht, weighed_apply]
    congr 1
    exact sum_scaled s t (invRoot t) (invRoot_nonneg t) (fun j => (largestOf fun k : Fin 512 => z (ix2 j k)) * w (ix2 0 0)) i
  pointwise [nodes]
  rw [hc]
  rfl

end Cert.ReferenceIdeal.Gat

end
-- ==== Proof.ReferenceValue.lean ====
/-
  The reference's result as a function of its arguments: the run's composed term is the layers and gates of
  ReferenceLayer.lean and ReferenceGates.lean.
-/
module

public import proofs.«01_k».proof.Proof.ReferenceGates
public import proofs.«01_k».proof.Proof.SelfLoops
public import proofs.«01_k».proof.Proof.Gen.ReferenceIdeal.Run

@[expose] public section

set_option maxRecDepth 16384

noncomputable section

namespace Cert.ReferenceIdeal.Gat

open Idealize.ShloMosaic Idealize.ShloMosaic.TcCoe Idealize.SL.Sem
open Cert.ReferenceIdeal Cert.ReferenceIdeal.Gen Cert.ReferenceIdeal.Value Cert.Gat

/-! ## The edge list -/

/-- The edges' sources, then the loops. -/
def sources (x : IVec S2x832 32) : IVec S884 32 :=
  concatenate S884 0 [⟨S832, shapeCast S832 (extractStridedSlice S1x832 ![0, 0] x slices_S2x832_S1x832_0_0) shapeCasts_S1x832_S832⟩, ⟨S52, iotaInDim S52 32 0⟩] concatenates_S832_S52_S884_d0

/-- The edges' destinations, then the loops. -/
def destinations (x : IVec S2x832 32) : IVec S884 32 :=
  concatenate S884 0 [⟨S832, shapeCast S832 (extractStridedSlice S1x832 ![1, 0] x slices_S2x832_S1x832_1_0) shapeCasts_S1x832_S832⟩, ⟨S52, iotaInDim S52 32 0⟩] concatenates_S832_S52_S884_d0

/-- The product of the features with a weight matrix. -/
def product (x : FVec Ideal S52x512 .f32) (W : FVec Ideal S512x512 .f32) : FVec Ideal S52x512 .f32 :=
  Host.dotGeneral dot_S52x512_S512x512_S52x512_1_0_0_1_n_n none x W

theorem product_apply (x : FVec Ideal S52x512 .f32) (W : FVec Ideal S512x512 .f32) (i : Fin 52) (k : Fin 512) :
    product x W (ix2 i k) = ∑ j : Fin 512, x (ix2 i j) * W (ix2 j k) := by
  pointwise [product]

theorem sources_lists {x : IVec S2x832 32} {s : Fin 832 → Fin 52} (hs : ∀ e : Fin 832, x (ix2 0 e) = BitVec.ofNat 32 (s e)) :
    Lists (sources x) (withLoops s) := by
  intro e
  have key : (if h : (e : ℕ) < 832 then x (ix2 0 ⟨e, h⟩) else BitVec.ofNat 32 ((e : ℕ) - 832)) = BitVec.ofNat 32 (withLoops s e) := by
    refine Fin.addCases (m := 832) (n := 52) (motive := fun e : Fin 884 => (if h : (e : ℕ) < 832 then x (ix2 0 ⟨e, h⟩) else BitVec.ofNat 32 ((e : ℕ) - 832)) = BitVec.ofNat 32 (withLoops s e)) (fun e => ?_) (fun l => ?_) e
    · rw [withLoops_edge, dif_pos (show ((Fin.castAdd 52 e : Fin 884) : ℕ) < 832 from e.isLt)]
      exact hs e
    · rw [withLoops_loop, dif_neg (show ¬ ((Fin.natAdd 832 l : Fin 884) : ℕ) < 832 by simp)]
      simp
  pointwise [sources]
  exact key

theorem destinations_lists {x : IVec S2x832 32} {t : Fin 832 → Fin 52} (ht : ∀ e : Fin 832, x (ix2 1 e) = BitVec.ofNat 32 (t e)) :
    Lists (destinations x) (withLoops t) := by
  intro e
  have key : (if h : (e : ℕ) < 832 then x (ix2 1 ⟨e, h⟩) else BitVec.ofNat 32 ((e : ℕ) - 832)) = BitVec.ofNat 32 (withLoops t e) := by
    refine Fin.addCases (m := 832) (n := 52) (motive := fun e : Fin 884 => (if h : (e : ℕ) < 832 then x (ix2 1 ⟨e, h⟩) else BitVec.ofNat 32 ((e : ℕ) - 832)) = BitVec.ofNat 32 (withLoops t e)) (fun e => ?_) (fun l => ?_) e
    · rw [withLoops_edge, dif_pos (show ((Fin.castAdd 52 e : Fin 884) : ℕ) < 832 from e.isLt)]
      exact ht e
    · rw [withLoops_loop, dif_neg (show ¬ ((Fin.natAdd 832 l : Fin 884) : ℕ) < 832 by simp)]
      simp
  pointwise [destinations]
  exact key

/-! ## The program's terms -/

section
variable (V0 : Valuation τ sig (Elt Ideal))

theorem v3_eq : res_main_v3 V0 = sources (V0 (Proc.devRef .tc main_arg1)) := rfl

theorem v6_eq : res_main_v6 V0 = destinations (V0 (Proc.devRef .tc main_arg1)) := rfl

theorem v7_eq : res_main_v7 V0 = product (V0 (Proc.devRef .tc main_arg0)) (V0 (Proc.devRef .tc main_arg2)) := rfl

theorem v30_eq : res_main_v30 V0 = logits (res_main_v3 V0) (res_main_v6 V0) (res_main_v7 V0) (V0 (Proc.devRef .tc main_arg3)) (V0 (Proc.devRef .tc main_arg4)) := by
  unfold res_main_v30 logits wrap; rfl

theorem v31_eq : res_main_v31 V0 = leaky (res_main_v30 V0) := by unfold res_main_v31 leaky; rfl

theorem v40_eq : res_main_v40 V0 = largest (res_main_v6 V0) (res_main_v31 V0) := by unfold res_main_v40 largest; rfl

theorem v46_eq : res_main_v46 V0 = shift (res_main_v40 V0) := by unfold res_main_v46 shift; rfl

theorem v55_eq : res_main_v55 V0 = weights (res_main_v6 V0) (res_main_v31 V0) (res_main_v46 V0) := by unfold res_main_v55 weights wrap; rfl

theorem v94_eq' : res_main_v94 V0 = aggregate (res_main_v3 V0) (res_main_v6 V0) (res_main_v7 V0) (V0 (Proc.devRef .tc main_arg5)) (res_main_v55 V0) (res_main_v46 V0) := by
  unfold res_main_v94 aggregate wrap column; rfl

/-- The first layer. -/
def first : FVec Ideal S52x512 .f32 :=
  layer (sources (V0 (Proc.devRef .tc main_arg1))) (destinations (V0 (Proc.devRef .tc main_arg1)))
    (product (V0 (Proc.devRef .tc main_arg0)) (V0 (Proc.devRef .tc main_arg2)))
    (V0 (Proc.devRef .tc main_arg3)) (V0 (Proc.devRef .tc main_arg4)) (V0 (Proc.devRef .tc main_arg5))

theorem v94_eq : res_main_v94 V0 = first V0 := by
  rw [v94_eq', v55_eq, v46_eq, v40_eq, v31_eq, v30_eq, v7_eq, v6_eq, v3_eq]
  rfl

theorem v95_eq : res_main_v95 V0 = product (res_main_v94 V0) (V0 (Proc.devRef .tc main_arg6)) := rfl

theorem v118_eq : res_main_v118 V0 = logits (res_main_v3 V0) (res_main_v6 V0) (res_main_v95 V0) (V0 (Proc.devRef .tc main_arg7)) (V0 (Proc.devRef .tc main_arg8)) := by
  unfold res_main_v118 logits wrap; rfl

theorem v119_eq : res_main_v119 V0 = leaky (res_main_v118 V0) := by unfold res_main_v119 leaky; rfl

theorem v128_eq : res_main_v128 V0 = largest (res_main_v6 V0) (res_main_v119 V0) := by unfold res_main_v128 largest; rfl

theorem v134_eq : res_main_v134 V0 = shift (res_main_v128 V0) := by unfold res_main_v134 shift; rfl

theorem v143_eq : res_main_v143 V0 = weights (res_main_v6 V0) (res_main_v119 V0) (res_main_v134 V0) := by unfold res_main_v143 weights wrap; rfl

theorem v184_eq' : res_main_v184 V0 = features (res_main_v94 V0) (aggregate (res_main_v3 V0) (res_main_v6 V0) (res_main_v95 V0) (V0 (Proc.devRef .tc main_arg9)) (res_main_v143 V0) (res_main_v134 V0)) := by
  unfold res_main_v184 features aggregate wrap column; rfl

/-- The second layer. -/
def second : FVec Ideal S52x512 .f32 :=
  layer (sources (V0 (Proc.devRef .tc main_arg1))) (destinations (V0 (Proc.devRef .tc main_arg1)))
    (product (first V0) (V0 (Proc.devRef .tc main_arg6)))
    (V0 (Proc.devRef .tc main_arg7)) (V0 (Proc.devRef .tc main_arg8)) (V0 (Proc.devRef .tc main_arg9))

theorem v184_eq : res_main_v184 V0 = features (first V0) (second V0) := by
  rw [v184_eq', v143_eq, v134_eq, v128_eq, v119_eq, v118_eq, v95_eq, v94_eq, v6_eq, v3_eq]
  rfl

theorem v208_eq : res_main_v208 V0 = channels (features (first V0) (second V0)) (V0 (Proc.devRef .tc main_arg10)) (V0 (Proc.devRef .tc main_arg11)) := by
  rw [← v184_eq]
  unfold res_main_v208 res_main_v185 channels perceptronV means maxima; rfl

theorem v219_eq : res_main_v219 V0 = factors (degrees (res_main_v6 V0)) := by
  unfold res_main_v219 res_main_v214 factors degrees column; rfl

/-- The whole result. -/
def result : FVec Ideal S52x512 .f32 :=
  nodes (sources (V0 (Proc.devRef .tc main_arg1))) (destinations (V0 (Proc.devRef .tc main_arg1)))
    (channels (features (first V0) (second V0)) (V0 (Proc.devRef .tc main_arg10)) (V0 (Proc.devRef .tc main_arg11)))
    (V0 (Proc.devRef .tc main_arg12)) (V0 (Proc.devRef .tc main_arg13))

end

/-- The reference's run: its result is `result` of the launch's contents, its arguments are kept. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v258) = result (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun _ h c => ⟨(h c).1.trans ?_, (h c).2⟩) (run m ρ)
  rw [v208_eq, v219_eq, v6_eq, v3_eq]
  unfold result nodes convolution weighed wrap column
  rfl

end Cert.ReferenceIdeal.Gat

end
-- ==== Proof.ReferenceBlock.lean ====
/-
  The reference's result is the whole block over the counts of the edges, every node's loop added.
-/
module

public import proofs.«01_k».proof.Proof.ReferenceValue
public import proofs.«01_k».proof.Proof.Block

@[expose] public section

set_option maxRecDepth 16384

noncomputable section

namespace Cert.ReferenceIdeal.Gat

open Idealize.ShloMosaic Idealize.ShloMosaic.TcCoe Idealize.SL.Sem
open Cert.ReferenceIdeal Cert.ReferenceIdeal.Gen

/-- The reference's leaky rectifier, a choice by sign, is the maximum of the two branches. -/
theorem rectifier_eq : rectifier = Cert.Gat.leaky := by
  obtain ⟨c, h0, h1, hc⟩ := slope
  funext z
  rw [rectifier, Cert.Gat.leaky, hc, Cert.Gat.max_leaky h0 h1]

variable {src dst : IVec S884 32} {s t : Fin 884 → Fin 52}

/-- The reference's layer of a product is the attention layer over the counts of the edges. -/
theorem layer_block (hs : Lists src s) (ht : Lists dst t) (x : FVec Ideal S52x512 .f32) (W : FVec Ideal S512x512 .f32)
    (av dv b : FVec Ideal S512 .f32) (i : Fin 52) (k : Fin 512) :
    layer src dst (product x W) av dv b (ix2 i k)
      = Cert.Gat.attentionLayer (fun i j => (Cert.Gat.count s t i j : EReal)) (fun i j => x (ix2 i j)) (fun j k => W (ix2 j k))
          (fun k => av (ix1 k)) (fun k => dv (ix1 k)) (fun k => b (ix1 k)) i k := by
  obtain ⟨g, hg, e⟩ := layer_apply hs ht (product x W) av dv b i k
  obtain ⟨ε, hε, he⟩ := guard
  have hd (a : FVec Ideal S512 .f32) : dot (product x W) a
      = fun i => ∑ k, Cert.Gat.linear (fun i j => x (ix2 i j)) (fun j k => W (ix2 j k)) i k * a (ix1 k) := by
    funext i
    simp only [dot, Cert.Gat.linear, product_apply]
  rw [e, he, Cert.Gat.edgeSum_eq_nodeSum _ _ _ hε _ _ _ _ hg, rectifier_eq, hd, hd, ← he]
  simp only [Cert.Gat.attentionLayer, Cert.Gat.linear, product_apply]

/-- THE REFERENCE'S RESULT: where the edge list names the nodes `s` and `t`, entry by entry the whole block of the
    argument arrays, over the counts of the edges with every node's loop added. -/
theorem result_apply (V0 : Valuation τ sig (Elt Ideal)) {s t : Fin 832 → Fin 52}
    (hs : ∀ e : Fin 832, (V0 (Proc.devRef .tc main_arg1) : IVec S2x832 32) (ix2 0 e) = BitVec.ofNat 32 (s e))
    (ht : ∀ e : Fin 832, (V0 (Proc.devRef .tc main_arg1) : IVec S2x832 32) (ix2 1 e) = BitVec.ofNat 32 (t e)) (i : Fin 52) (k : Fin 512) :
    result V0 (ix2 i k)
      = Cert.Gat.block (fun i j => (Cert.Gat.count (Cert.Gat.withLoops s) (Cert.Gat.withLoops t) i j : EReal)) (fun j => ((Cert.Gat.invRoot (Cert.Gat.withLoops t) j : ℝ) : EReal))
          (fun i j => (V0 (Proc.devRef .tc main_arg0) : FVec Ideal S52x512 .f32) (ix2 i j))
          (fun j k => (V0 (Proc.devRef .tc main_arg2) : FVec Ideal S512x512 .f32) (ix2 j k))
          (fun k => (V0 (Proc.devRef .tc main_arg3) : FVec Ideal S512 .f32) (ix1 k))
          (fun k => (V0 (Proc.devRef .tc main_arg4) : FVec Ideal S512 .f32) (ix1 k))
          (fun k => (V0 (Proc.devRef .tc main_arg5) : FVec Ideal S512 .f32) (ix1 k))
          (fun j k => (V0 (Proc.devRef .tc main_arg6) : FVec Ideal S512x512 .f32) (ix2 j k))
          (fun k => (V0 (Proc.devRef .tc main_arg7) : FVec Ideal S512 .f32) (ix1 k))
          (fun k => (V0 (Proc.devRef .tc main_arg8) : FVec Ideal S512 .f32) (ix1 k))
          (fun k => (V0 (Proc.devRef .tc main_arg9) : FVec Ideal S512 .f32) (ix1 k))
          (fun k j => (V0 (Proc.devRef .tc main_arg10) : FVec Ideal S512x512 .f32) (ix2 k j))
          (fun k => (V0 (Proc.devRef .tc main_arg11) : FVec Ideal S512 .f32) (ix1 k))
          ((V0 (Proc.devRef .tc main_arg12) : FVec Ideal S1x1 .f32) (ix2 0 0))
          ((V0 (Proc.devRef .tc main_arg13) : FVec Ideal S1 .f32) (ix1 0)) i k := by
  have hS := sources_lists hs
  have hT := destinations_lists ht
  unfold result
  rw [nodes_apply hS hT]
  simp only [channels_apply, features_apply]
  unfold second first
  simp only [layer_block hS hT, Cert.Gat.block, Cert.Gat.nodeGated, Cert.Gat.residualLayer]
  rfl

end Cert.ReferenceIdeal.Gat

end

end
-- ==== Proof.Edges.lean ====
/-
  The precondition, read word by word: every entry of the edge list names one of the 52 nodes.
-/
module

public import proofs.«01_k».proof.Pre_edges_name_nodes
public import Idealize.ShloMosaic.Lib.Pointwise

@[expose] public section

noncomputable section

namespace Cert.Pre_edges_name_nodes

open Idealize.ShloMosaic

/-- The predicate's one side condition: a scalar broadcasts to the edge list's shape. -/
theorem facts : Facts := ⟨by decide⟩

/-- A conjunction of two truth words is true exactly when both are. -/
theorem and_true (p q : Bool) : IntOp.andi (BitVec.ofBool p) (BitVec.ofBool q) = 1#1 ↔ p = true ∧ q = true := by
  cases p <;> cases q <;> decide

/-- A word between 0 and 52, signed, is a node's number. -/
theorem node_of_word (w : BitVec 32) (h : IntOp.andi (IntOp.cmpi .sge w 0#32) (IntOp.cmpi .slt w 52#32) = 1#1) :
    ∃ n : Fin 52, w = BitVec.ofNat 32 n := by
  simp only [IntOp.cmpi] at h
  obtain ⟨hge, hlt⟩ := (and_true _ _).mp h
  simp only [BitVec.sle, BitVec.slt, decide_eq_true_eq, BitVec.toInt, BitVec.toNat_ofNat] at hge hlt
  have hw := w.isLt
  have hn : w.toNat < 52 := by omega
  exact ⟨⟨w.toNat, hn⟩, BitVec.eq_of_toNat_eq (by simp [BitVec.toNat_ofNat])⟩

variable [Facts]

/-- Where the predicate holds, the two rows of the edge list are lists of nodes. -/
theorem nodes_of_pre {F : FTy → Type} [FloatOps F] {x0 : FVec F S52x512 .f32} {x1 : IVec S2x832 32} {x2 : FVec F S512x512 .f32}
    {x3 x4 x5 : FVec F S512 .f32} {x6 : FVec F S512x512 .f32} {x7 x8 x9 : FVec F S512 .f32} {x10 : FVec F S512x512 .f32}
    {x11 : FVec F S512 .f32} {x12 : FVec F S1x1 .f32} {x13 : FVec F S1 .f32}
    (h : fn x0 x1 x2 x3 x4 x5 x6 x7 x8 x9 x10 x11 x12 x13 = fun _ => 1#1) :
    ∃ s t : Fin 832 → Fin 52, (∀ e : Fin 832, x1 (ix2 0 e) = BitVec.ofNat 32 (s e)) ∧ ∀ e : Fin 832, x1 (ix2 1 e) = BitVec.ofNat 32 (t e) := by
  have word : ∀ y, ∃ n : Fin 52, x1 y = BitVec.ofNat 32 n := fun y => by
    have e := congrFun h y
    simp only [fn, andi, cmpi, broadcastInDim, constantI] at e
    exact node_of_word _ e
  choose node hnode using word
  exact ⟨fun e => node (ix2 0 e), fun e => node (ix2 1 e), fun e => hnode _, fun e => hnode _⟩

end Cert.Pre_edges_name_nodes

end

end
-- ==== Proof.lean ====
/-
  The claim, assembled: the kernels' frames are generated, the reference's comes from its run; the value claim sets the
  kernel's result array beside the reference's result, both being the same function of the arguments.
-/
module

public import proofs.«01_k».proof.Defs
public import proofs.«01_k».proof.Proof.Gen.Kernel
public import proofs.«01_k».proof.Proof.Gen.Kernel.Frame
public import proofs.«01_k».proof.Proof.KernelArray
public import proofs.«01_k».proof.Proof.ReferenceBlock
public import proofs.«01_k».proof.Proof.Edges
public import Idealize.ShloMosaic.Adequacy
public import Idealize.ShloMosaic.Init

@[expose] public section

noncomputable section

namespace Cert.Proof

open Idealize.ShloMosaic Idealize.ShloMosaic.TcCoe Idealize.SL.Sem

/-- The reference ends with its arguments unchanged and every counter at zero. -/
theorem frame_reference : @Cert.quiescent_ReferenceIdeal Cert.ReferenceIdeal.Gen.facts := fun m g _ =>
  (θ_run (Cert.ReferenceIdeal.defs (F := Ideal)) _ _).mono
    (fun r h => ⟨fun c => (h c).2, sem_eq_zero_of_no_sems (by decide) r.2⟩) (Cert.ReferenceIdeal.Gat.run_result m g)

/-- Where the precondition holds, the kernel's result array is the reference's result on the same arguments. -/
theorem value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : @Cert.Pre_KernelIdeal_edges_name_nodes Cert.Pre_edges_name_nodes.facts m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.Gat.result (StableHlo.launchContents m' c)
      = (Cert.KernelIdeal.Gen.dats m 0 c).arrAt 14 Cert.KernelIdeal.cfg0.N := by
  obtain ⟨s, t, hs, ht⟩ := @Cert.Pre_edges_name_nodes.nodes_of_pre Cert.Pre_edges_name_nodes.facts _ _ _ _ _ _ _ _ _ _ _ _ _ _ _ _ (hpre c)
  funext y
  rw [eq_ix2 y]
  refine (Cert.ReferenceIdeal.Gat.result_apply (StableHlo.launchContents m' c) (s := s) (t := t) ?_ ?_ _ _).trans
    (Eq.trans ?_ (Cert.KernelIdeal.Gat.array_apply m c hs ht _ _).symm)
  · exact fun e => (congrFun h1 _).trans (hs e)
  · exact fun e => (congrFun h1 _).trans (ht e)
  · unfold StableHlo.launchContents
    rw [h0, h2, h3, h4, h5, h6, h7, h8, h9, h10, h11, h12, h13]

/-- The value claim: both runs end with the kernel's result array. -/
theorem algebraic : @Cert.algebraic_KernelIdeal_ReferenceIdeal_pre_edges_name_nodes Cert.KernelIdeal.Gen.facts Cert.ReferenceIdeal.Gen.facts
    Cert.Pre_edges_name_nodes.facts := by
  intro m g m' g' hpre hagree
  refine ⟨fun c => (Cert.KernelIdeal.Gen.dats m 0 c).arrAt 14 Cert.KernelIdeal.cfg0.N, Cert.KernelIdeal.Value.run_blocks m g, ?_⟩
  refine (θ_run (Cert.ReferenceIdeal.defs (F := Ideal)) _ _).mono (fun _ h c => ⟨(h c).1.trans ?_, (h c).2⟩) (Cert.ReferenceIdeal.Gat.run_result m' g')
  obtain ⟨h0, h1, h2, h3, h4, h5, h6, h7, h8, h9, h10, h11, h12, h13⟩ := hagree c
  exact value m m' hpre c h0 h1 h2 h3 h4 h5 h6 h7 h8 h9 h10 h11 h12 h13

/-- Every claim of the certificate. -/
theorem claim : Cert.Claim :=
  ⟨Cert.Kernel.Gen.facts, Cert.KernelIdeal.Gen.facts, Cert.ReferenceIdeal.Gen.facts, Cert.Pre_edges_name_nodes.facts,
    fun m g _ => Cert.Kernel.Gen.frame m g, fun m g _ => Cert.KernelIdeal.Gen.frame m g, fun m g _ => Cert.KernelIdeal.Gen.frame m g,
    frame_reference, fun m g _ => frame_reference m g trivial, trivial, algebraic⟩

end Cert.Proof

end
